-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_representable [hPre_representable : Cert.Pre_representable.Facts] (m : (ℓ : Loc Cert.KernelIdeal.nD Cert.KernelIdeal.τ Cert.KernelIdeal.sig) → Buf (Elt Ideal) ℓ) : Prop :=
  ∀ c : Dev Cert.KernelIdeal.nD,
    (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_representable [hPre_representable : Cert.Pre_representable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_representable [hKernelIdeal : Cert.KernelIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_representable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_representable [hReferenceIdeal : Cert.ReferenceIdeal.Facts] [hPre_representable : Cert.Pre_representable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_representable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log_b1" .f32 0xBDD7C741#32 ((Real.log (9 / 10) : ℝ) : EReal)
  ∧ IdealRules.named_const.Statement Cert.KernelIdeal.κ "log_b2" .f32 0xBD5218EB#32 ((Real.log (19 / 20) : ℝ) : EReal)
  ∧ IdealRules.named_const.Statement Cert.KernelIdeal.κ "b1" .f32 0x3F666666#32 ((9 / 10 : ℝ) : EReal)
  ∧ IdealRules.named_const.Statement Cert.KernelIdeal.κ "b2" .f32 0x3F733333#32 ((19 / 20 : ℝ) : EReal)

def algebraic_KernelIdeal_ReferenceIdeal_pre_representable [hKernelIdeal : Cert.KernelIdeal.Facts] [hReferenceIdeal : Cert.ReferenceIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_representable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_v1_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_representable : Cert.Pre_representable.Facts),
    quiescent_Kernel (hKernel := hKernel)
    ∧ quiescent_KernelIdeal (hKernelIdeal := hKernelIdeal)
    ∧ quiescent_KernelIdeal_pre_representable (hKernelIdeal := hKernelIdeal) (hPre_representable := hPre_representable)
    ∧ quiescent_ReferenceIdeal (hReferenceIdeal := hReferenceIdeal)
    ∧ quiescent_ReferenceIdeal_pre_representable (hReferenceIdeal := hReferenceIdeal) (hPre_representable := hPre_representable)
    ∧ preserves_Kernel_KernelIdeal
    ∧ algebraic_KernelIdeal_ReferenceIdeal_pre_representable (hKernelIdeal := hKernelIdeal) (hReferenceIdeal := hReferenceIdeal) (hPre_representable := hPre_representable)
-- ==== Pre_representable.lean ====
abbrev S3x512x1408 : Shape := ⟨3, ![3, 512, 1408]⟩
abbrev S3x512x11 : Shape := ⟨3, ![3, 512, 11]⟩
abbrev S3 : Shape := ⟨1, ![3]⟩
abbrev S_ : Shape := ⟨0, ![]⟩

class Facts : Prop where
  bitsLt_bf16_f32 : FTy.bits .bf16 < FTy.bits .f32
  bcast_S_S3x512x1408 : S_.BroadcastsInDim S3x512x1408 (![] : Fin 0 → Fin S3x512x1408.rank)
  natLt_8_32 : 8 < 32
  bcast_S_S3x512x11 : S_.BroadcastsInDim S3x512x11 (![] : Fin 0 → Fin S3x512x11.rank)
  bcast_S_S3 : S_.BroadcastsInDim S3 (![] : Fin 0 → Fin S3.rank)

variable [Facts]

def fn_part2 {F : FTy → Type} [FloatOps F] (main_arg6 : IVec S3 32) (main_v13 : IVec S3x512x1408 1) (main_v16 : IVec S3x512x1408 1) (main_v18 : IVec S3x512x1408 1) (main_v21 : IVec S3x512x11 1) (main_v23 : IVec S3x512x1408 1) (main_v31 : IVec S3x512x1408 1) (main_v34 : IVec S3 1) (main_c_10 : IVec S_ 32) : IVec S3x512x1408 1 × IVec S3x512x1408 1 × IVec S3x512x1408 1 × IVec S3x512x11 1 × IVec S3x512x1408 1 × IVec S3x512x1408 1 × IVec S3 1 × IVec S3 1 :=
  let main_v35 : IVec S3 32 := broadcastInDim S3 ![] bcast_S_S3 main_c_10
  let main_v36 : IVec S3 1 := cmpi .sge main_arg6 main_v35
  (main_v13, main_v16, main_v18, main_v21, main_v23, main_v31, main_v34, main_v36)

def fn_part1 {F : FTy → Type} [FloatOps F] (main_arg3 : FVec F S3x512x11 .f32) (main_arg5 : FVec F S3 .f32) (main_arg6 : IVec S3 32) (main_v0 : FVec F S3x512x1408 .f32) (main_v1 : FVec F S3x512x1408 .f32) (main_v7 : FVec F S3x512x1408 .f32) (main_v10 : IVec S3x512x1408 32) (main_v13 : IVec S3x512x1408 1) (main_v16 : IVec S3x512x1408 1) (main_v17 : IVec S3x512x1408 32) : IVec S3x512x1408 1 × IVec S3x512x1408 1 × IVec S3x512x1408 1 × IVec S3x512x11 1 × IVec S3x512x1408 1 × IVec S3x512x1408 1 × IVec S3 1 × IVec S3 1 :=
  let main_v18 : IVec S3x512x1408 1 := cmpi .ne main_v10 main_v17
  let main_v19 : FVec F S3x512x11 .f32 := Host.absf main_arg3
  let main_cst_4 : FVec F S_ .f32 := constant S_ .f32 0x5F800000#32
  let main_v20 : FVec F S3x512x11 .f32 := broadcastInDim S3x512x11 ![] bcast_S_S3x512x11 main_cst_4
  let main_v21 : IVec S3x512x11 1 := cmpf .ole main_v19 main_v20
  let main_cst_5 : FVec F S_ .f32 := constant S_ .f32 0x00000000#32
  let main_v22 : FVec F S3x512x1408 .f32 := broadcastInDim S3x512x1408 ![] bcast_S_S3x512x1408 main_cst_5
  let main_v23 : IVec S3x512x1408 1 := cmpf .oge main_v1 main_v22
  let main_cst_6 : FVec F S_ .f32 := constant S_ .f32 0x00800000#32
  let main_v24 : FVec F S3x512x1408 .f32 := broadcastInDim S3x512x1408 ![] bcast_S_S3x512x1408 main_cst_6
  let main_v25 : IVec S3x512x1408 1 := cmpf .oge main_v7 main_v24
  let main_cst_7 : FVec F S_ .f32 := constant S_ .f32 0x00000000#32
  let main_v26 : FVec F S3x512x1408 .f32 := broadcastInDim S3x512x1408 ![] bcast_S_S3x512x1408 main_cst_7
  let main_v27 : IVec S3x512x1408 1 := cmpf .oeq main_v0 main_v26
  let main_c_8 : IVec S_ 32 := constantI S_ 32 0#32
  let main_v28 : IVec S3x512x1408 32 := broadcastInDim S3x512x1408 ![] bcast_S_S3x512x1408 main_c_8
  let main_v29 : IVec S3x512x1408 1 := cmpi .eq main_v10 main_v28
  let main_v30 : IVec S3x512x1408 1 := andi main_v27 main_v29
  let main_v31 : IVec S3x512x1408 1 := ori main_v25 main_v30
  let main_v32 : FVec F S3 .f32 := Host.absf main_arg5
  let main_cst_9 : FVec F S_ .f32 := constant S_ .f32 0x44800000#32
  let main_v33 : FVec F S3 .f32 := broadcastInDim S3 ![] bcast_S_S3 main_cst_9
  let main_v34 : IVec S3 1 := cmpf .ole main_v32 main_v33
  let main_c_10 : IVec S_ 32 := constantI S_ 32 1#32
  fn_part2 (F := F) main_arg6 main_v13 main_v16 main_v18 main_v21 main_v23 main_v31 main_v34 main_c_10

def fn {F : FTy → Type} [FloatOps F] (main_arg0 : FVec F S3x512x1408 .f32) (main_arg1 : FVec F S3x512x1408 .bf16) (main_arg2 : IVec S3x512x1408 8) (main_arg3 : FVec F S3x512x11 .f32) (main_arg4 : FVec F S3x512x1408 .bf16) (main_arg5 : FVec F S3 .f32) (main_arg6 : IVec S3 32) : IVec S3x512x1408 1 × IVec S3x512x1408 1 × IVec S3x512x1408 1 × IVec S3x512x11 1 × IVec S3x512x1408 1 × IVec S3x512x1408 1 × IVec S3 1 × IVec S3 1 :=
  let main_v0 : FVec F S3x512x1408 .f32 := (extf .f32 · bitsLt_bf16_f32) main_arg1
  let main_v1 : FVec F S3x512x1408 .f32 := (extf .f32 · bitsLt_bf16_f32) main_arg4
  let main_cst : FVec F S_ .f32 := constant S_ .f32 0x3F733333#32
  let main_v2 : FVec F S3x512x1408 .f32 := broadcastInDim S3x512x1408 ![] bcast_S_S3x512x1408 main_cst
  let main_v3 : FVec F S3x512x1408 .f32 := mulf main_v2 main_v1
  let main_cst_0 : FVec F S_ .f32 := constant S_ .f32 0x3D4CCCCD#32
  let main_v4 : FVec F S3x512x1408 .f32 := broadcastInDim S3x512x1408 ![] bcast_S_S3x512x1408 main_cst_0
  let main_v5 : FVec F S3x512x1408 .f32 := mulf main_v4 main_v0
  let main_v6 : FVec F S3x512x1408 .f32 := mulf main_v5 main_v0
  let main_v7 : FVec F S3x512x1408 .f32 := addf main_v3 main_v6
  let main_v8 : IVec S3x512x1408 32 := (extui 32 · natLt_8_32) main_arg2
  let main_c : IVec S_ 32 := constantI S_ 32 127#32
  let main_v9 : IVec S3x512x1408 32 := broadcastInDim S3x512x1408 ![] bcast_S_S3x512x1408 main_c
  let main_v10 : IVec S3x512x1408 32 := andi main_v8 main_v9
  let main_v11 : FVec F S3x512x1408 .f32 := Host.absf main_arg0
  let main_cst_1 : FVec F S_ .f32 := constant S_ .f32 0x5F800000#32
  let main_v12 : FVec F S3x512x1408 .f32 := broadcastInDim S3x512x1408 ![] bcast_S_S3x512x1408 main_cst_1
  let main_v13 : IVec S3x512x1408 1 := cmpf .ole main_v11 main_v12
  let main_v14 : FVec F S3x512x1408 .f32 := Host.absf main_v0
  let main_cst_2 : FVec F S_ .f32 := constant S_ .f32 0x5F800000#32
  let main_v15 : FVec F S3x512x1408 .f32 := broadcastInDim S3x512x1408 ![] bcast_S_S3x512x1408 main_cst_2
  let main_v16 : IVec S3x512x1408 1 := cmpf .ole main_v14 main_v15
  let main_c_3 : IVec S_ 32 := constantI S_ 32 127#32
  let main_v17 : IVec S3x512x1408 32 := broadcastInDim S3x512x1408 ![] bcast_S_S3x512x1408 main_c_3
  fn_part1 (F := F) main_arg3 main_arg5 main_arg6 main_v0 main_v1 main_v7 main_v10 main_v13 main_v16 main_v17
-- ==== Kernel.lean ====
abbrev S3x512x1408 : Shape := ⟨3, ![3, 512, 1408]⟩
abbrev S3x512x11 : Shape := ⟨3, ![3, 512, 11]⟩
abbrev S3 : Shape := ⟨1, ![3]⟩
abbrev S3x4x1x11 : Shape := ⟨4, ![3, 4, 1, 11]⟩
abbrev S3x1408x512 : Shape := ⟨3, ![3, 1408, 512]⟩
abbrev S1x128x1408 : Shape := ⟨3, ![1, 128, 1408]⟩
abbrev S1x128x11 : Shape := ⟨3, ![1, 128, 11]⟩
abbrev S1x1x1x11 : Shape := ⟨4, ![1, 1, 1, 11]⟩
abbrev S1x1408x128 : Shape := ⟨3, ![1, 1408, 128]⟩
abbrev S1x1 : Shape := ⟨2, ![1, 1]⟩
abbrev S1 : Shape := ⟨1, ![1]⟩
abbrev S128x128 : Shape := ⟨2, ![128, 128]⟩
abbrev S128x11 : Shape := ⟨2, ![128, 11]⟩
abbrev S1x128 : Shape := ⟨2, ![1, 128]⟩
abbrev S1x128x128 : Shape := ⟨3, ![1, 128, 128]⟩
abbrev S128x1 : Shape := ⟨2, ![128, 1]⟩
abbrev S128 : Shape := ⟨1, ![128]⟩
abbrev S1x1x1 : Shape := ⟨3, ![1, 1, 1]⟩
abbrev S1x11 : Shape := ⟨2, ![1, 11]⟩

abbrev nBuf : Space → Nat
  | .hbm => 15
  | .vmem => 24
  | .smem => 2
  | _ => 0

abbrev bufTy : (tb : Table) → Fin (tcTables nBuf tb) → BufTy
  | .hbm, ⟨0, _⟩ => ⟨S3x512x1408, .f32⟩
  | .hbm, ⟨1, _⟩ => ⟨S3x512x1408, .bf16⟩
  | .hbm, ⟨2, _⟩ => ⟨S3x512x1408, .i8⟩
  | .hbm, ⟨3, _⟩ => ⟨S3x512x11, .f32⟩
  | .hbm, ⟨4, _⟩ => ⟨S3x512x1408, .bf16⟩
  | .hbm, ⟨5, _⟩ => ⟨S3, .f32⟩
  | .hbm, ⟨6, _⟩ => ⟨S3, .i32⟩
  | .hbm, ⟨7, _⟩ => ⟨S3x512x1408, .fp8e4m3⟩
  | .hbm, ⟨8, _⟩ => ⟨S3x512x1408, .f32⟩
  | .hbm, ⟨9, _⟩ => ⟨S3x512x1408, .bf16⟩
  | .hbm, ⟨10, _⟩ => ⟨S3x512x1408, .fp8e4m3⟩
  | .hbm, ⟨11, _⟩ => ⟨S3x512x11, .f32⟩
  | .hbm, ⟨12, _⟩ => ⟨S3x512x1408, .fp8e4m3⟩
  | .hbm, ⟨13, _⟩ => ⟨S3x4x1x11, .f32⟩
  | .hbm, ⟨14, _⟩ => ⟨S3x1408x512, .fp8e4m3⟩
  | .local _ .vmem, ⟨0, _⟩ => ⟨S1x128x1408, .f32⟩
  | .local _ .vmem, ⟨1, _⟩ => ⟨S1x128x1408, .f32⟩
  | .local _ .vmem, ⟨2, _⟩ => ⟨S1x128x1408, .bf16⟩
  | .local _ .vmem, ⟨3, _⟩ => ⟨S1x128x1408, .bf16⟩
  | .local _ .vmem, ⟨4, _⟩ => ⟨S1x128x1408, .fp8e4m3⟩
  | .local _ .vmem, ⟨5, _⟩ => ⟨S1x128x1408, .fp8e4m3⟩
  | .local _ .vmem, ⟨6, _⟩ => ⟨S1x128x11, .f32⟩
  | .local _ .vmem, ⟨7, _⟩ => ⟨S1x128x11, .f32⟩
  | .local _ .vmem, ⟨8, _⟩ => ⟨S1x128x1408, .bf16⟩
  | .local _ .vmem, ⟨9, _⟩ => ⟨S1x128x1408, .bf16⟩
  | .local _ .vmem, ⟨10, _⟩ => ⟨S1x128x1408, .f32⟩
  | .local _ .vmem, ⟨11, _⟩ => ⟨S1x128x1408, .f32⟩
  | .local _ .vmem, ⟨12, _⟩ => ⟨S1x128x1408, .bf16⟩
  | .local _ .vmem, ⟨13, _⟩ => ⟨S1x128x1408, .bf16⟩
  | .local _ .vmem, ⟨14, _⟩ => ⟨S1x128x1408, .fp8e4m3⟩
  | .local _ .vmem, ⟨15, _⟩ => ⟨S1x128x1408, .fp8e4m3⟩
  | .local _ .vmem, ⟨16, _⟩ => ⟨S1x128x11, .f32⟩
  | .local _ .vmem, ⟨17, _⟩ => ⟨S1x128x11, .f32⟩
  | .local _ .vmem, ⟨18, _⟩ => ⟨S1x128x1408, .fp8e4m3⟩
  | .local _ .vmem, ⟨19, _⟩ => ⟨S1x128x1408, .fp8e4m3⟩
  | .local _ .vmem, ⟨20, _⟩ => ⟨S1x1x1x11, .f32⟩
  | .local _ .vmem, ⟨21, _⟩ => ⟨S1x1x1x11, .f32⟩
  | .local _ .vmem, ⟨22, _⟩ => ⟨S1x1408x128, .fp8e4m3⟩
  | .local _ .vmem, ⟨23, _⟩ => ⟨S1x1408x128, .fp8e4m3⟩
  | .local _ .smem, ⟨0, _⟩ => ⟨S3, .f32⟩
  | .local _ .smem, ⟨1, _⟩ => ⟨S3, .i32⟩
  | _, _ => ⟨S3x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![3, 4], ![false, false]⟩

def k0_off1 (i : grid0.Coords) : Fin 1 → Nat :=
  let arg0 : BitVec 32 := BitVec.ofNat 32 (i 0).val
  let v1 : Index := Scalar.indexCast arg0
  ![v1.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x11 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1408 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x11 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1408 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x11 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1408x128 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "b1" => some ((9 / 10 : ℝ) : EReal)
  | "b2" => some ((19 / 20 : ℝ) : EReal)
  | "log_b1" => some ((Real.log (9 / 10) : ℝ) : EReal)
  | "log_b2" => some ((Real.log (19 / 20) : ℝ) : EReal)
  | _ => none
-- ==== ReferenceIdeal.lean ====
abbrev S3x512x1408 : Shape := ⟨3, ![3, 512, 1408]⟩
abbrev S3x512x11 : Shape := ⟨3, ![3, 512, 11]⟩
abbrev S3 : Shape := ⟨1, ![3]⟩
abbrev S3x4x1x11 : Shape := ⟨4, ![3, 4, 1, 11]⟩
abbrev S3x1408x512 : Shape := ⟨3, ![3, 1408, 512]⟩
abbrev S3x512x11x128 : Shape := ⟨4, ![3, 512, 11, 128]⟩
abbrev S3x512x11x1 : Shape := ⟨4, ![3, 512, 11, 1]⟩
abbrev S3x1x1 : Shape := ⟨3, ![3, 1, 1]⟩
abbrev S3x4x128x11x128 : Shape := ⟨5, ![3, 4, 128, 11, 128]⟩
abbrev S3x4x11 : Shape := ⟨3, ![3, 4, 11]⟩
abbrev S3x4x1x11x1 : Shape := ⟨5, ![3, 4, 1, 11, 1]⟩

abbrev nBuf : Space → Nat
  | .hbm => 15
  | .vmem => 14
  | .smem => 0
  | _ => 0

abbrev bufTy : (tb : Table) → Fin (tcTables nBuf tb) → BufTy
  | .hbm, ⟨0, _⟩ => ⟨S3x512x1408, .f32⟩
  | .hbm, ⟨1, _⟩ => ⟨S3x512x1408, .bf16⟩
  | .hbm, ⟨2, _⟩ => ⟨S3x512x1408, .i8⟩
  | .hbm, ⟨3, _⟩ => ⟨S3x512x11, .f32⟩
  | .hbm, ⟨4, _⟩ => ⟨S3x512x1408, .bf16⟩
  | .hbm, ⟨5, _⟩ => ⟨S3, .f32⟩
  | .hbm, ⟨6, _⟩ => ⟨S3, .i32⟩
  | .hbm, ⟨7, _⟩ => ⟨S3x512x1408, .fp8e4m3⟩
  | .hbm, ⟨8, _⟩ => ⟨S3x512x1408, .f32⟩
  | .hbm, ⟨9, _⟩ => ⟨S3x512x1408, .bf16⟩
  | .hbm, ⟨10, _⟩ => ⟨S3x512x1408, .fp8e4m3⟩
  | .hbm, ⟨11, _⟩ => ⟨S3x512x11, .f32⟩
  | .hbm, ⟨12, _⟩ => ⟨S3x512x1408, .fp8e4m3⟩
  | .hbm, ⟨13, _⟩ => ⟨S3x4x1x11, .f32⟩
  | .hbm, ⟨14, _⟩ => ⟨S3x1408x512, .fp8e4m3⟩
  | .local _ .vmem, ⟨0, _⟩ => ⟨S3x512x1408, .f32⟩
  | .local _ .vmem, ⟨1, _⟩ => ⟨S3x512x1408, .bf16⟩
  | .local _ .vmem, ⟨2, _⟩ => ⟨S3x512x1408, .fp8e4m3⟩
  | .local _ .vmem, ⟨3, _⟩ => ⟨S3x512x11, .f32⟩
  | .local _ .vmem, ⟨4, _⟩ => ⟨S3x512x1408, .bf16⟩
  | .local _ .vmem, ⟨5, _⟩ => ⟨S3, .f32⟩
  | .local _ .vmem, ⟨6, _⟩ => ⟨S3, .i32⟩
  | .local _ .vmem, ⟨7, _⟩ => ⟨S3x512x1408, .f32⟩
  | .local _ .vmem, ⟨8, _⟩ => ⟨S3x512x1408, .bf16⟩
  | .local _ .vmem, ⟨9, _⟩ => ⟨S3x512x1408, .fp8e4m3⟩
  | .local _ .vmem, ⟨10, _⟩ => ⟨S3x512x11, .f32⟩
  | .local _ .vmem, ⟨11, _⟩ => ⟨S3x512x1408, .fp8e4m3⟩
  | .local _ .vmem, ⟨12, _⟩ => ⟨S3x4x1x11, .f32⟩
  | .local _ .vmem, ⟨13, _⟩ => ⟨S3x1408x512, .fp8e4m3⟩
  | _, _ => ⟨S3x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "b1" => some ((9 / 10 : ℝ) : EReal)
  | "b2" => some ((19 / 20 : ℝ) : EReal)
  | "log_2" => some ((Real.log 2 : ℝ) : EReal)
  | _ => none

abbrev grid0 : Pipeline.Grid := .none

abbrev stage0_0 : Fin 1 → Memref sig .tc .vmem S3x512x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x11 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x512x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x512x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x512x1408 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x512x1408 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x512x11 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x512x1408 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x4x1x11 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x1408x512 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Spec.lean ====
/- What the step computes on one column block, over the extended reals: 128 rows by 128 lanes of one batch, in the
   kernel's spelling (`k…`) and in the reference's (`r…`). -/
module

public import Idealize.ShloMosaic.Lib.Pointwise

@[expose] public section

noncomputable section

namespace Cert.Adam

open Idealize.ShloMosaic

/-- The value of an f32 word. -/
abbrev lit (b : BitVec 32) : EReal := Ideal.ofBits .f32 b

/-- A column block of the arguments, and the two scalars of its batch. -/
structure Col where
  lr : EReal
  st : BitVec 32
  ms : Fin 128 → EReal
  w : Fin 128 → Fin 128 → EReal
  g : Fin 128 → Fin 128 → EReal
  mc : Fin 128 → Fin 128 → EReal
  v : Fin 128 → Fin 128 → EReal

/-- The largest magnitude of a row, -/
def rowMax (x : Fin 128 → EReal) : EReal :=
  Finset.fold max (lit 0xFF800000#32) (fun c => max (x c) (-(x c))) Finset.univ

/-- and of a block. -/
def blockMax (x : Fin 128 → Fin 128 → EReal) : EReal :=
  Finset.fold max (lit 0xFF800000#32) (fun p : Fin 128 × Fin 128 => max (x p.1 p.2) (-(x p.1 p.2))) Finset.univ

/-- The largest magnitude as a fraction of the largest code. -/
def part (a : EReal) : EReal := a * lit 0x3B124925#32

/-- One step of the search for the exponent field, -/
def stepS (k : BitVec 32) (a : EReal) (t : BitVec 32) : BitVec 32 :=
  Scalar.select (FloatOps.cmpf (F := Ideal) (φ := .f32) .olt a (lit (IntOp.addi t k))) t (IntOp.addi t k)

/-- and the search. -/
def searchS (a : EReal) : BitVec 32 :=
  stepS 8388608#32 a (stepS 16777216#32 a (stepS 33554432#32 a (stepS 67108864#32 a (stepS 134217728#32 a
    (stepS 268435456#32 a (stepS 536870912#32 a (stepS 1073741824#32 a 0#32)))))))

def fieldS (a : EReal) : BitVec 32 :=
  Scalar.select (IntOp.cmpi .eq (searchS a) 0#32) 1056964608#32 (searchS a)

/-- The kernel's scale of `a`, -/
def kScale (a : EReal) : EReal := lit (IntOp.addi (fieldS (max (part a) (-(part a)))) 8388608#32)

/-- and its inverse. -/
def kInv (a : EReal) : EReal := lit (IntOp.subi 2122317824#32 (fieldS (max (part a) (-(part a)))))

/-- Clip to the range of the codes. -/
def clip (x : EReal) : EReal := min (lit 0x43E00000#32) (max (lit 0xC3E00000#32) x)

/-- The decay rates of the moments, as the program names them. -/
abbrev β₁ : EReal := ((9 / 10 : ℝ) : EReal)
abbrev β₂ : EReal := ((19 / 20 : ℝ) : EReal)

/-! ### The reference's quantiser -/

/-- The magnitude the exponent is taken of: below the least normal number it counts as zero. -/
def flushed (a : EReal) : EReal := if part a < lit 0x00800000#32 then 0 else part a

/-- The exponent of `a`: of the least power of two above it. -/
def rExp (a : EReal) : EReal :=
  if flushed a = 0 then 0 else Ideal.liftRound Int.floor (Ideal.div (Ideal.log (flushed a)) ((Real.log 2 : ℝ) : EReal)) + 1

/-- The reference's scale of `a`, -/
def rScale (a : EReal) : EReal := Ideal.exp2 (rExp a)

/-- and its inverse. -/
def rInv (a : EReal) : EReal := Ideal.exp2 (0 - rExp a)

namespace Col

variable (D : Col)

/-! ### The kernel -/

def kM (r c : Fin 128) : EReal := D.mc r c * (D.ms r * β₁) + lit 0x3DCCCCCD#32 * D.g r c
def vN (r c : Fin 128) : EReal := β₂ * D.v r c + lit 0x3D4CCCCD#32 * D.g r c * D.g r c

/-- The corrections by the step count: one minus the decay rate to the power of the step. -/
def kBc1 : EReal := 1 - Ideal.exp (((D.st.toInt : ℝ) : EReal) * ((Real.log (9 / 10) : ℝ) : EReal))
def kBc2 : EReal := 1 - Ideal.exp (((D.st.toInt : ℝ) : EReal) * ((Real.log (19 / 20) : ℝ) : EReal))

def kW (r c : Fin 128) : EReal :=
  D.w r c * (1 - D.lr * lit 0x3DCCCCCD#32)
    - D.kM r c * Ideal.div (Ideal.rsqrt (max (D.vN r c) (lit 0x00800000#32)))
        (Ideal.div D.kBc1 D.lr * Ideal.rsqrt D.kBc2
          + Ideal.div D.kBc1 D.lr * lit 0x322BCC77#32 * Ideal.rsqrt (max (D.vN r c) (lit 0x00800000#32)))

def kMScale (r : Fin 128) : EReal := kScale (rowMax (D.kM r))
def kMCode (r c : Fin 128) : EReal := clip (D.kM r c * kInv (rowMax (D.kM r)))
def kWScale : EReal := kScale (blockMax D.kW)
def kWCode (r c : Fin 128) : EReal := clip (D.kW r c * kInv (blockMax D.kW))

/-! ### The reference -/

def rM (r c : Fin 128) : EReal := β₁ * (D.mc r c * D.ms r) + lit 0x3DCCCCCD#32 * D.g r c

def rW (r c : Fin 128) : EReal :=
  D.w r c * (1 - D.lr * lit 0x3DCCCCCD#32)
    - Ideal.div D.lr (1 - Ideal.pow β₁ ((D.st.toInt : ℝ) : EReal))
      * Ideal.div (D.rM r c) (Ideal.div (Ideal.sqrt (D.vN r c)) (Ideal.sqrt (1 - Ideal.pow β₂ ((D.st.toInt : ℝ) : EReal)))
          + lit 0x322BCC77#32)

def rMScale (r : Fin 128) : EReal := rScale (rowMax (D.rM r))
def rMCode (r c : Fin 128) : EReal := clip (D.rM r c * rInv (rowMax (D.rM r)))
def rWScale : EReal := rScale (blockMax D.rW)
def rWCode (r c : Fin 128) : EReal := clip (D.rW r c * rInv (blockMax D.rW))

end Col

end Cert.Adam

end
-- ==== Proof.Args.lean ====
/- The arguments of the step, and the column blocks they are computed in. -/
module

public import proofs.«01_k».proof.Proof.Spec

@[expose] public section

noncomputable section

namespace Cert.Adam

open Idealize.ShloMosaic

/-- The seven arguments: weights, gradient, the words of the first moment's codes, their scales, the second moment, and
    per batch the learning rate and the step. -/
structure Args where
  w : Vec Ideal ⟨3, ![3, 512, 1408]⟩ .f32
  g : Vec Ideal ⟨3, ![3, 512, 1408]⟩ .bf16
  mw : Vec Ideal ⟨3, ![3, 512, 1408]⟩ .i8
  ms : Vec Ideal ⟨3, ![3, 512, 11]⟩ .f32
  v : Vec Ideal ⟨3, ![3, 512, 1408]⟩ .bf16
  lr : Vec Ideal ⟨1, ![3]⟩ .f32
  st : Vec Ideal ⟨1, ![3]⟩ .i32

/-- Row `r` of the `i`th block of rows, -/
abbrev row (i : Fin 4) (r : Fin 128) : Fin 512 := ⟨128 * i.val + r.val, by omega⟩
/-- and the block and the row in it of a row. -/
abbrev blkOf (n : Fin 512) : Fin 4 := ⟨n.val / 128, by omega⟩
abbrev rowOf (n : Fin 512) : Fin 128 := ⟨n.val % 128, by omega⟩

/-- Lane `c` of column `k`, -/
abbrev lane (k : Fin 11) (c : Fin 128) : Fin 1408 := ⟨128 * k.val + c.val, by omega⟩
/-- and the column and the lane in it of a lane. -/
abbrev colOf (j : Fin 1408) : Fin 11 := ⟨j.val / 128, by omega⟩
abbrev laneOf (j : Fin 1408) : Fin 128 := ⟨j.val % 128, by omega⟩

theorem colOf_lane (k : Fin 11) (c : Fin 128) : colOf (lane k c) = k := Fin.ext (by simp only [colOf, lane]; omega)
theorem laneOf_lane (k : Fin 11) (c : Fin 128) : laneOf (lane k c) = c := Fin.ext (by simp only [laneOf, lane]; omega)
theorem blkOf_row (i : Fin 4) (r : Fin 128) : blkOf (row i r) = i := Fin.ext (by simp only [blkOf, row]; omega)
theorem rowOf_row (i : Fin 4) (r : Fin 128) : rowOf (row i r) = r := Fin.ext (by simp only [rowOf, row]; omega)
theorem lane_colOf (j : Fin 1408) : lane (colOf j) (laneOf j) = j := Fin.ext (by simp only [colOf, laneOf, lane]; omega)
theorem row_blkOf (n : Fin 512) : row (blkOf n) (rowOf n) = n := Fin.ext (by simp only [blkOf, rowOf, row]; omega)

/-- Column block (`i`, `k`) of batch `b`. -/
def Args.col (A : Args) (b : Fin 3) (i : Fin 4) (k : Fin 11) : Col where
  lr := A.lr (ix1 b)
  st := A.st (ix1 b)
  ms r := A.ms (ix3 b (row i r) k)
  w r c := A.w (ix3 b (row i r) (lane k c))
  g r c := A.g (ix3 b (row i r) (lane k c))
  mc r c := Ideal.ofBits .fp8e4m3 (A.mw (ix3 b (row i r) (lane k c)))
  v r c := A.v (ix3 b (row i r) (lane k c))

/-- The column block an element lies in. -/
abbrev Args.at (A : Args) (b : Fin 3) (n : Fin 512) (j : Fin 1408) : Col := A.col b (blkOf n) (colOf j)

theorem Args.at_row_lane (A : Args) (b : Fin 3) (i : Fin 4) (k : Fin 11) (r c : Fin 128) : A.at b (row i r) (lane k c) = A.col b i k := by
  show A.col b (blkOf (row i r)) (colOf (lane k c)) = _
  rw [blkOf_row, colOf_lane]

end Cert.Adam

end
-- ==== Proof.Literals.lean ====
/- The values of the program's constants. -/
module

public import proofs.«01_k».proof.Proof.Spec
public import Idealize.ShloMosaic.Lib.IdealHost

@[expose] public section

noncomputable section

namespace Cert.Adam

open Idealize.ShloMosaic

theorem lit_bot : lit 0xFF800000#32 = ⊥ := by
  simp [Ideal.ofBits, Ideal.ieee]

/-- One minus the decay rates, -/
theorem lit_tenth : lit 0x3DCCCCCD#32 = ((13421773 / 2 ^ 27 : ℝ) : EReal) := by
  simp [Ideal.ofBits, Ideal.ieee, -EReal.coe_mul]; norm_num
theorem lit_twentieth : lit 0x3D4CCCCD#32 = ((13421773 / 2 ^ 28 : ℝ) : EReal) := by
  simp [Ideal.ofBits, Ideal.ieee, -EReal.coe_mul]; norm_num
/-- the rounded decay rate of the second moment, -/
theorem lit_decay : lit 0x3F733333#32 = ((15938355 / 2 ^ 24 : ℝ) : EReal) := by
  simp [Ideal.ofBits, Ideal.ieee, -EReal.coe_mul]; norm_num
/-- the denominator's offset, -/
theorem lit_eps : lit 0x322BCC77#32 = ((11258999 / 2 ^ 50 : ℝ) : EReal) := by
  simp [Ideal.ofBits, Ideal.ieee, -EReal.coe_mul]; norm_num
/-- the reciprocal of the largest code, -/
theorem lit_part : lit 0x3B124925#32 = ((9586981 / 2 ^ 32 : ℝ) : EReal) := by
  simp [Ideal.ofBits, Ideal.ieee, -EReal.coe_mul]; norm_num
/-- the least normal number, -/
theorem lit_tiny : lit 0x00800000#32 = ((1 / 2 ^ 126 : ℝ) : EReal) := by
  simp [Ideal.ofBits, Ideal.ieee, -EReal.coe_mul]; norm_num
/-- and the bounds of the precondition. -/
theorem lit_big : lit 0x5F800000#32 = ((18446744073709551616 : ℝ) : EReal) := by
  simp [Ideal.ofBits, Ideal.ieee, -EReal.coe_mul]; norm_num
theorem lit_lr : lit 0x44800000#32 = ((1024 : ℝ) : EReal) := by
  simp [Ideal.ofBits, Ideal.ieee, -EReal.coe_mul]; norm_num

/-! ### The codes -/

theorem code_ne : ∀ b : BitVec 8, b &&& 127#8 ≠ 127#8 → ¬((b.extractLsb' 3 4).toNat = 15 ∧ (b.extractLsb' 0 3).toNat = 7) := by decide
theorem code_zero : ∀ b : BitVec 8, b &&& 127#8 = 0#8 → (b.extractLsb' 3 4).toNat = 0 ∧ (b.extractLsb' 0 3).toNat = 0 := by decide

/-- A word that is not the code of no number denotes one of magnitude at most 480. -/
theorem code_bound (b : BitVec 8) (h : b &&& 127#8 ≠ 127#8) : ∃ x : ℝ, Ideal.ofBits .fp8e4m3 b = (x : EReal) ∧ |x| ≤ 480 := by
  show ∃ x : ℝ, Ideal.e4m3fn b = (x : EReal) ∧ |x| ≤ 480
  have he : (b.extractLsb' 3 4).toNat < 16 := (b.extractLsb' 3 4).isLt
  have hf : (b.extractLsb' 0 3).toNat < 8 := (b.extractLsb' 0 3).isLt
  unfold Ideal.e4m3fn
  simp only []
  rw [if_neg (code_ne b h)]
  have hs : |(if (b.extractLsb' 7 1 == 1#1) = true then (-1 : ℝ) else 1)| = 1 := by split_ifs <;> norm_num
  generalize (b.extractLsb' 3 4).toNat = e at he ⊢
  generalize (b.extractLsb' 0 3).toNat = f at hf ⊢
  generalize (if (b.extractLsb' 7 1 == 1#1) = true then (-1 : ℝ) else 1) = s at hs ⊢
  have hf' : (f : ℝ) ≤ 7 := by exact_mod_cast Nat.le_of_lt_succ hf
  have hf0 : (0 : ℝ) ≤ f := Nat.cast_nonneg f
  split_ifs with h0
  · refine ⟨_, rfl, ?_⟩
    rw [abs_mul, abs_mul, hs, abs_of_nonneg hf0]
    norm_num
    linarith
  · refine ⟨_, rfl, ?_⟩
    have hp : (2 : ℝ) ^ ((e : ℤ) - 10) ≤ 2 ^ (5 : ℤ) := zpow_le_zpow_right₀ (by norm_num) (by omega)
    have hp0 : (0 : ℝ) ≤ (2 : ℝ) ^ ((e : ℤ) - 10) := (zpow_pos (by norm_num) _).le
    rw [abs_mul, abs_mul, hs, abs_of_nonneg hp0, abs_of_nonneg (Nat.cast_nonneg _)]
    push_cast
    have : (2 : ℝ) ^ (5 : ℤ) = 32 := by norm_num
    rw [this] at hp
    nlinarith

/-- The codes of zero. -/
theorem code_zero_eq (b : BitVec 8) (h : b &&& 127#8 = 0#8) : Ideal.ofBits .fp8e4m3 b = 0 := by
  show Ideal.e4m3fn b = 0
  obtain ⟨h1, h2⟩ := code_zero b h
  unfold Ideal.e4m3fn
  simp only [h1, h2]
  rw [if_neg (by norm_num)]
  simp

end Cert.Adam

end
-- ==== Proof.Update.lean ====
/- The kernel's weight update is the reference's, on a column block of numbers in range. -/
module

public import proofs.«01_k».proof.Proof.Literals

@[expose] public section

noncomputable section

namespace Cert.Adam

open Idealize.ShloMosaic

/-- What the precondition says of a column block. -/
structure Good (D : Col) : Prop where
  lr : ∃ x : ℝ, D.lr = (x : EReal) ∧ |x| ≤ 1024
  st : 1 ≤ D.st.toInt
  ms : ∀ r, ∃ x : ℝ, D.ms r = (x : EReal) ∧ |x| ≤ 2 ^ 64
  w : ∀ r c, ∃ x : ℝ, D.w r c = (x : EReal) ∧ |x| ≤ 2 ^ 64
  g : ∀ r c, ∃ x : ℝ, D.g r c = (x : EReal) ∧ |x| ≤ 2 ^ 64
  mc : ∀ r c, ∃ x : ℝ, D.mc r c = (x : EReal) ∧ |x| ≤ 480
  v : ∀ r c, 0 ≤ D.v r c
  tiny : ∀ r c, lit 0x00800000#32 ≤ D.vN r c ∨ (D.g r c = 0 ∧ D.mc r c = 0)

/-! ### The ideal operations at real numbers -/

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem div_top (x : EReal) : Ideal.div x ⊤ = 0 := by
  unfold Ideal.div
  rw [if_neg (by simp), EReal.inv_top, mul_zero]

theorem zero_div {y : EReal} (h : y ≠ 0) : Ideal.div 0 y = 0 := by
  unfold Ideal.div
  rw [if_neg h, zero_mul]

theorem sqrt_coe {x : ℝ} (h : 0 ≤ x) : Ideal.sqrt (x : EReal) = ((Real.sqrt x : ℝ) : EReal) := by
  show (if x < 0 then ⊥ else ((Real.sqrt x : ℝ) : EReal)) = _
  rw [if_neg (not_lt.mpr h)]

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

variable {D : Col}

/-! ### The bias corrections -/

/-- A power of a decay rate, by exponential and logarithm as by the power itself. -/
theorem exp_log {q : ℝ} (hq : 0 < q) (n : ℤ) :
    Ideal.exp (((n : ℝ) : EReal) * ((Real.log q : ℝ) : EReal)) = ((q ^ n : ℝ) : EReal) := by
  rw [← EReal.coe_mul]
  show ((Real.exp ((n : ℝ) * Real.log q) : ℝ) : EReal) = _
  rw [mul_comm, ← Real.rpow_def_of_pos hq, Real.rpow_intCast]

theorem pow_coe (q : ℝ) (n : ℤ) : Ideal.pow (q : EReal) ((n : ℝ) : EReal) = ((q ^ n : ℝ) : EReal) := by
  show ((Real.rpow q (n : ℝ) : ℝ) : EReal) = _
  congr 1
  exact Real.rpow_intCast q n

theorem corr_bounds {q : ℝ} (h0 : 0 < q) (h1 : q < 1) {n : ℤ} (hn : 1 ≤ n) : 1 - q ≤ 1 - q ^ n ∧ 1 - q ^ n < 1 := by
  have hp : 0 < q ^ n := zpow_pos h0 n
  have hle : q ^ n ≤ q ^ (1 : ℤ) := zpow_le_zpow_right_of_le_one₀ h0 h1.le hn
  rw [zpow_one] at hle
  exact ⟨by linarith, by linarith⟩

theorem one_sub_coe (x : ℝ) : (1 : EReal) - (x : EReal) = ((1 - x : ℝ) : EReal) := rfl

/-- The second term of the weight update, in the reference's spelling. -/
def refTerm (lr m v bc1 bc2 : EReal) : EReal := Ideal.div lr bc1 * Ideal.div m (Ideal.div (Ideal.sqrt v) (Ideal.sqrt bc2) + lit 0x322BCC77#32)

/-- The same in the kernel's. -/
def kerTerm (lr m v bc1 bc2 : EReal) : EReal :=
  m * Ideal.div (Ideal.rsqrt (max v (lit 0x00800000#32)))
    (Ideal.div bc1 lr * Ideal.rsqrt bc2 + Ideal.div bc1 lr * lit 0x322BCC77#32 * Ideal.rsqrt (max v (lit 0x00800000#32)))

theorem div_zero_of_pos {x : EReal} (h : 0 < x) : Ideal.div x 0 = ⊤ := by
  unfold Ideal.div
  rw [if_pos rfl, if_pos h]

/-- Where the moment is zero both are zero. -/
theorem refTerm_zero (lr bc1 : EReal) {v : EReal} {b2 : ℝ} (hv : 0 ≤ v) (hb : 0 < b2) : refTerm lr 0 v bc1 (b2 : EReal) = 0 := by
  unfold refTerm
  rw [zero_div, mul_zero]
  rw [lit_eps, sqrt_coe hb.le]
  have hs : 0 < Real.sqrt b2 := Real.sqrt_pos.mpr hb
  induction v with
  | bot => exact absurd hv (by simp)
  | top =>
    have : Ideal.div (Ideal.sqrt ⊤) ((Real.sqrt b2 : ℝ) : EReal) = ⊤ := by
      show Ideal.div ⊤ _ = ⊤
      unfold Ideal.div
      rw [if_neg (by exact_mod_cast hs.ne'), ← EReal.coe_inv, EReal.top_mul_coe_of_pos (inv_pos.mpr hs)]
    rw [this, EReal.top_add_coe]
    simp
  | coe x =>
    have hx : 0 ≤ x := by exact_mod_cast hv
    rw [sqrt_coe hx, div_coe _ _ hs.ne', ← EReal.coe_add]
    have : 0 < Real.sqrt x / Real.sqrt b2 + 11258999 / 2 ^ 50 := by positivity
    exact_mod_cast this.ne'

theorem kerTerm_zero (lr v bc1 bc2 : EReal) : kerTerm lr 0 v bc1 bc2 = 0 := by
  unfold kerTerm
  rw [zero_mul]

/-- Elsewhere the second moment is at least the least normal number, and both are the same quotient. -/
theorem term_eq {m lr b1 b2 : ℝ} {v : EReal} (hv : lit 0x00800000#32 ≤ v) (h1 : 0 < b1) (h2 : 0 < b2) :
    kerTerm (lr : EReal) (m : EReal) v (b1 : EReal) (b2 : EReal) = refTerm (lr : EReal) (m : EReal) v (b1 : EReal) (b2 : EReal) := by
  unfold kerTerm refTerm
  rw [max_eq_left hv, sqrt_coe h2.le, rsqrt_coe h2, lit_eps]
  have hs2 : 0 < Real.sqrt b2 := Real.sqrt_pos.mpr h2
  have htop : (b1 : EReal) ≠ 0 := by exact_mod_cast h1.ne'
  have he : (0 : ℝ) < 11258999 / 2 ^ 50 := by norm_num
  rw [lit_tiny] at hv
  induction v with
  | bot => exact absurd hv (by simp)
  | top =>
    have hr : Ideal.rsqrt ⊤ = 0 := rfl
    have hd : Ideal.div (Ideal.sqrt ⊤) ((Real.sqrt b2 : ℝ) : EReal) = ⊤ := by
      show Ideal.div ⊤ _ = ⊤
      unfold Ideal.div
      rw [if_neg (by exact_mod_cast hs2.ne'), ← EReal.coe_inv, EReal.top_mul_coe_of_pos (inv_pos.mpr hs2)]
    rw [hr, hd, EReal.top_add_coe, div_top, mul_zero, mul_zero, add_zero]
    by_cases hl : lr = 0
    · subst hl
      rw [EReal.coe_zero, div_zero_of_pos (by exact_mod_cast h1), EReal.top_mul_coe_of_pos (inv_pos.mpr hs2), div_top, mul_zero]
    · rw [div_coe _ _ hl, ← EReal.coe_mul, zero_div, mul_zero]
      exact_mod_cast mul_ne_zero (div_ne_zero h1.ne' hl) (inv_pos.mpr hs2).ne'
  | coe x =>
    have hx : (1 / 2 ^ 126 : ℝ) ≤ x := by exact_mod_cast hv
    have hx0 : 0 < x := lt_of_lt_of_le (by positivity) hx
    have hs : 0 < Real.sqrt x := Real.sqrt_pos.mpr hx0
    have hden : 0 < Real.sqrt x / Real.sqrt b2 + 11258999 / 2 ^ 50 := by positivity
    rw [rsqrt_coe hx0, sqrt_coe hx0.le, div_coe _ _ hs2.ne', ← EReal.coe_add, div_coe _ _ hden.ne', div_coe _ _ h1.ne', ← EReal.coe_mul]
    by_cases hl : lr = 0
    · subst hl
      rw [EReal.coe_zero, div_zero_of_pos (by exact_mod_cast h1), EReal.top_mul_coe_of_pos (inv_pos.mpr hs2), EReal.top_mul_coe_of_pos he,
        EReal.top_mul_coe_of_pos (inv_pos.mpr hs), EReal.top_add_top, div_top, mul_zero]
      norm_num
    · have hne : b1 / lr * (Real.sqrt b2)⁻¹ + b1 / lr * (11258999 / 2 ^ 50) * (Real.sqrt x)⁻¹ ≠ 0 := by
        have e : b1 / lr * (Real.sqrt b2)⁻¹ + b1 / lr * (11258999 / 2 ^ 50) * (Real.sqrt x)⁻¹
            = b1 / lr * ((Real.sqrt b2)⁻¹ + 11258999 / 2 ^ 50 * (Real.sqrt x)⁻¹) := by ring
        rw [e]
        exact mul_ne_zero (div_ne_zero h1.ne' hl) (by positivity : (0 : ℝ) < (Real.sqrt b2)⁻¹ + 11258999 / 2 ^ 50 * (Real.sqrt x)⁻¹).ne'
      rw [div_coe _ _ hl, ← EReal.coe_mul, ← EReal.coe_mul, ← EReal.coe_mul, ← EReal.coe_add, div_coe _ _ hne, ← EReal.coe_mul]
      congr 1
      generalize Real.sqrt x = s at hs hden hne ⊢
      generalize Real.sqrt b2 = t at hs2 hden hne ⊢
      generalize (11258999 / 2 ^ 50 : ℝ) = e at he hden hne ⊢
      have hd : s + e * t ≠ 0 := by positivity
      have a1 : b1 / lr * t⁻¹ + b1 / lr * e * s⁻¹ = b1 / lr * ((s + e * t) / (s * t)) := by
        field_simp
      have a2 : s / t + e = (s + e * t) / t := by
        field_simp
      rw [a1, a2]
      field_simp

/-! ### The new values of a column block -/

/-- The first moment is the same number. -/
theorem kM_eq (D : Col) (r c : Fin 128) : D.kM r c = D.rM r c := by
  show D.mc r c * (D.ms r * β₁) + lit 0x3DCCCCCD#32 * D.g r c = β₁ * (D.mc r c * D.ms r) + lit 0x3DCCCCCD#32 * D.g r c
  rw [← mul_assoc (D.mc r c), mul_comm (D.mc r c * D.ms r)]

/-- It is a number in range, -/
theorem rM_bound (h : Good D) (r c : Fin 128) : ∃ x : ℝ, D.rM r c = (x : EReal) ∧ |x| ≤ 2 ^ 74 := by
  obtain ⟨ms, ems, hms⟩ := h.ms r
  obtain ⟨mc, emc, hmc⟩ := h.mc r c
  obtain ⟨g, eg, hg⟩ := h.g r c
  refine ⟨9 / 10 * (mc * ms) + 13421773 / 2 ^ 27 * g, ?_, ?_⟩
  · show β₁ * (D.mc r c * D.ms r) + lit 0x3DCCCCCD#32 * D.g r c = _
    rw [ems, emc, eg, lit_tenth, ← EReal.coe_mul, ← EReal.coe_mul, ← EReal.coe_mul, ← EReal.coe_add]
  · have h1 : |mc * ms| ≤ 480 * 2 ^ 64 := by
      rw [abs_mul]
      exact mul_le_mul hmc hms (abs_nonneg _) (by norm_num)
    rw [abs_le] at h1 hg ⊢
    constructor <;> norm_num at * <;> linarith [h1.1, h1.2, hg.1, hg.2]

/-- and zero where code and gradient are. -/
theorem rM_zero (r c : Fin 128) (hg : D.g r c = 0) (hm : D.mc r c = 0) : D.rM r c = 0 := by
  show β₁ * (D.mc r c * D.ms r) + lit 0x3DCCCCCD#32 * D.g r c = 0
  rw [hg, hm, zero_mul, mul_zero, mul_zero, add_zero]

/-- The second moment is not negative. -/
theorem vN_nonneg (h : Good D) (r c : Fin 128) : 0 ≤ D.vN r c := by
  obtain ⟨g, eg, -⟩ := h.g r c
  show 0 ≤ β₂ * D.v r c + lit 0x3D4CCCCD#32 * D.g r c * D.g r c
  rw [eg, lit_twentieth, ← EReal.coe_mul, ← EReal.coe_mul]
  refine add_nonneg (mul_nonneg ?_ (h.v r c)) ?_
  · exact EReal.coe_nonneg.mpr (by norm_num)
  · exact_mod_cast (by nlinarith [mul_self_nonneg g] : (0 : ℝ) ≤ 13421773 / 2 ^ 28 * g * g)

/-- The corrections as real numbers. -/
abbrev corr₁ (D : Col) : ℝ := 1 - (9 / 10 : ℝ) ^ D.st.toInt
abbrev corr₂ (D : Col) : ℝ := 1 - (19 / 20 : ℝ) ^ D.st.toInt

theorem corr₁_bounds (h : Good D) : 1 / 10 ≤ corr₁ D := by
  have := (corr_bounds (q := 9 / 10) (by norm_num) (by norm_num) h.st).1
  show 1 / 10 ≤ 1 - (9 / 10 : ℝ) ^ D.st.toInt
  linarith
theorem corr₂_bounds (h : Good D) : 1 / 20 ≤ corr₂ D ∧ corr₂ D < 1 := by
  have := corr_bounds (q := 19 / 20) (by norm_num) (by norm_num) h.st
  exact ⟨by linarith [this.1], this.2⟩

theorem kW_split (D : Col) (r c : Fin 128) : D.kW r c
    = D.w r c * (1 - D.lr * lit 0x3DCCCCCD#32) - kerTerm D.lr (D.kM r c) (D.vN r c) (corr₁ D : EReal) (corr₂ D : EReal) := by
  have e1 : D.kBc1 = (corr₁ D : EReal) := by
    show 1 - Ideal.exp _ = _
    rw [exp_log (by norm_num), one_sub_coe]
  have e2 : D.kBc2 = (corr₂ D : EReal) := by
    show 1 - Ideal.exp _ = _
    rw [exp_log (by norm_num), one_sub_coe]
  rw [← e1, ← e2]
  rfl

theorem rW_split (D : Col) (r c : Fin 128) : D.rW r c
    = D.w r c * (1 - D.lr * lit 0x3DCCCCCD#32) - refTerm D.lr (D.rM r c) (D.vN r c) (corr₁ D : EReal) (corr₂ D : EReal) := by
  unfold Col.rW
  rw [pow_coe, pow_coe, one_sub_coe, one_sub_coe]
  rfl

/-- The new weights are the same numbers. -/
theorem kW_eq (h : Good D) (r c : Fin 128) : D.kW r c = D.rW r c := by
  have b1 := corr₁_bounds h
  have b2 := (corr₂_bounds h).1
  have p1 : 0 < corr₁ D := by linarith
  have p2 : 0 < corr₂ D := by linarith
  rw [kW_split, rW_split, kM_eq]
  congr 1
  rcases h.tiny r c with hv | ⟨hg, hm⟩
  · obtain ⟨x, ex, -⟩ := rM_bound h r c
    obtain ⟨l, el, -⟩ := h.lr
    rw [ex, el]
    exact term_eq hv p1 p2
  · rw [rM_zero r c hg hm, kerTerm_zero, refTerm_zero _ _ (vN_nonneg h r c) p2]

/-- The update's second term is a number in range, -/
theorem refTerm_bound {lr m b1 b2 : ℝ} {v : EReal} (hl : |lr| ≤ 1024) (hm : |m| ≤ 2 ^ 74) (h1 : 1 / 10 ≤ b1) (h2 : 0 < b2) (hv : 0 ≤ v) :
    ∃ x : ℝ, refTerm (lr : EReal) (m : EReal) v (b1 : EReal) (b2 : EReal) = (x : EReal) ∧ |x| ≤ 2 ^ 116 := by
  have hs2 : 0 < Real.sqrt b2 := Real.sqrt_pos.mpr h2
  have hb1 : 0 < b1 := by linarith
  unfold refTerm
  rw [sqrt_coe h2.le, lit_eps, div_coe _ _ hb1.ne']
  induction v with
  | bot => exact absurd hv (by simp)
  | top =>
    have hd : Ideal.div (Ideal.sqrt ⊤) ((Real.sqrt b2 : ℝ) : EReal) = ⊤ := by
      show Ideal.div ⊤ _ = ⊤
      unfold Ideal.div
      rw [if_neg (by exact_mod_cast hs2.ne'), ← EReal.coe_inv, EReal.top_mul_coe_of_pos (inv_pos.mpr hs2)]
    rw [hd, EReal.top_add_coe, div_top, mul_zero]
    exact ⟨0, rfl, by norm_num⟩
  | coe x =>
    have hx : 0 ≤ x := by exact_mod_cast hv
    have hden : (11258999 / 2 ^ 50 : ℝ) ≤ Real.sqrt x / Real.sqrt b2 + 11258999 / 2 ^ 50 := by
      have : 0 ≤ Real.sqrt x / Real.sqrt b2 := by positivity
      linarith
    have he : (0 : ℝ) < 11258999 / 2 ^ 50 := by norm_num
    have hd0 : 0 < Real.sqrt x / Real.sqrt b2 + 11258999 / 2 ^ 50 := by linarith
    rw [sqrt_coe hx, div_coe _ _ hs2.ne', ← EReal.coe_add, div_coe _ _ hd0.ne', ← EReal.coe_mul]
    refine ⟨_, rfl, ?_⟩
    generalize Real.sqrt x / Real.sqrt b2 + 11258999 / 2 ^ 50 = d at hden hd0
    rw [abs_mul, abs_div, abs_div, abs_of_pos hb1, abs_of_pos hd0]
    have a1 : |lr| / b1 ≤ 1024 * 10 := by
      rw [div_le_iff₀ hb1]
      linarith
    have a2 : |m| / d ≤ 2 ^ 102 := by
      rw [div_le_iff₀ hd0]
      have : (2 : ℝ) ^ 102 * (11258999 / 2 ^ 50) ≤ 2 ^ 102 * d := mul_le_mul_of_nonneg_left hden (by norm_num)
      refine le_trans hm (le_trans ?_ this)
      norm_num
    calc |lr| / b1 * (|m| / d) ≤ (1024 * 10) * 2 ^ 102 := mul_le_mul a1 a2 (by positivity) (by norm_num)
      _ ≤ 2 ^ 116 := by norm_num

/-- and so are the new weights. -/
theorem rW_bound (h : Good D) (r c : Fin 128) : ∃ x : ℝ, D.rW r c = (x : EReal) ∧ |x| ≤ 2 ^ 117 := by
  obtain ⟨w, ew, hw⟩ := h.w r c
  obtain ⟨l, el, hl⟩ := h.lr
  obtain ⟨m, em, hm⟩ := rM_bound h r c
  have b2 := (corr₂_bounds h).1
  obtain ⟨t, et, ht⟩ := refTerm_bound hl hm (corr₁_bounds h) (by linarith : 0 < corr₂ D) (vN_nonneg h r c)
  refine ⟨w * (1 - l * (13421773 / 2 ^ 27)) - t, ?_, ?_⟩
  · rw [rW_split, em, el, et, ew, lit_tenth, ← EReal.coe_mul, one_sub_coe, ← EReal.coe_mul, ← EReal.coe_sub]
  · have h1 : |1 - l * (13421773 / 2 ^ 27)| ≤ 1024 := by
      rw [abs_le] at hl ⊢
      constructor <;> norm_num <;> linarith [hl.1, hl.2]
    have h2 : |w * (1 - l * (13421773 / 2 ^ 27))| ≤ 2 ^ 64 * 1024 := by
      rw [abs_mul]
      exact mul_le_mul hw h1 (abs_nonneg _) (by norm_num)
    have h3 := abs_sub (w * (1 - l * (13421773 / 2 ^ 27))) t
    calc |w * (1 - l * (13421773 / 2 ^ 27)) - t| ≤ 2 ^ 64 * 1024 + 2 ^ 116 := by linarith
      _ ≤ 2 ^ 117 := by norm_num

end Cert.Adam

end
-- ==== Proof.Precondition.lean ====
/- The precondition, and what it makes of a column block: a good one. -/
module

public import proofs.«01_k».proof.Defs
public import proofs.«01_k».proof.Proof.Args
public import proofs.«01_k».proof.Proof.Literals
public import proofs.«01_k».proof.Proof.Update

@[expose] public section

noncomputable section

namespace Cert.Adam

open Idealize.ShloMosaic

/-- The conditions its operations take. -/
theorem preFacts : Cert.Pre_representable.Facts :=
  ⟨by decide, by decide, by decide, by decide, by decide⟩

/-! ### What each comparison says -/

theorem ole_one {a b : EReal} (h : Ideal.cmp .ole a b = 1#1) : a ≤ b := by
  by_contra hn
  exact absurd (show BitVec.ofBool (decide (a ≤ b)) = 1#1 from h) (by simp [hn])

theorem oge_one {a b : EReal} (h : Ideal.cmp .oge a b = 1#1) : b ≤ a := by
  by_contra hn
  exact absurd (show BitVec.ofBool (decide (b ≤ a)) = 1#1 from h) (by simp [hn])

theorem oeq_one {a b : EReal} (h : Ideal.cmp .oeq a b = 1#1) : a = b := by
  by_contra hn
  exact absurd (show BitVec.ofBool (decide (a = b)) = 1#1 from h) (by simp [hn])

theorem sge_one {a b : BitVec 32} (h : IntOp.cmpi .sge a b = 1#1) : b.toInt ≤ a.toInt := by
  have h' : BitVec.ofBool (b.sle a) = 1#1 := h
  cases e : b.sle a
  · rw [e] at h'
    exact absurd h' (by decide)
  · exact BitVec.sle_iff_toInt_le.mp e

theorem ori_one : ∀ x y : BitVec 1, IntOp.ori x y = 1#1 → x = 1#1 ∨ y = 1#1 := by decide
theorem andi_one : ∀ x y : BitVec 1, IntOp.andi x y = 1#1 → x = 1#1 ∧ y = 1#1 := by decide
theorem word_ne : ∀ b : BitVec 8, IntOp.cmpi .ne (IntOp.andi (b.setWidth 32) 127#32) 127#32 = 1#1 → b &&& 127#8 ≠ 127#8 := by decide
theorem word_zero : ∀ b : BitVec 8, IntOp.cmpi .eq (IntOp.andi (b.setWidth 32) 127#32) 0#32 = 1#1 → b &&& 127#8 = 0#8 := by decide

/-- A magnitude below a number is a number's. -/
theorem real_of_abs {x : EReal} {B : ℝ} (h : max x (-x) ≤ (B : EReal)) : ∃ t : ℝ, x = (t : EReal) ∧ |t| ≤ B := by
  have h1 : x ≤ (B : EReal) := (le_max_left _ _).trans h
  have h2 : -x ≤ (B : EReal) := (le_max_right _ _).trans h
  induction x using EReal.rec with
  | bot => exact absurd h2 (by simp)
  | top => exact absurd h1 (by simp)
  | coe t =>
    refine ⟨t, rfl, abs_le.mpr ⟨?_, by exact_mod_cast h1⟩⟩
    rw [← EReal.coe_neg] at h2
    have : -t ≤ B := by exact_mod_cast h2
    linarith

/-- The precondition's decay rate is the rounded one, which is below 19/20. -/
theorem decay_le : lit 0x3F733333#32 ≤ β₂ := by
  rw [lit_decay]
  exact EReal.coe_le_coe_iff.mpr (by norm_num)

/-! ### The precondition's eight conditions on an `Args` -/

variable [Cert.Pre_representable.Facts]

/-- The precondition's function, at the arguments `A`. -/
abbrev Args.pre (A : Args) := Cert.Pre_representable.fn (F := Ideal) A.w A.g A.mw A.ms A.v A.lr A.st

variable {A : Args}

theorem pre_w (h : A.pre.1 = fun _ => 1#1) (i : (⟨3, ![3, 512, 1408]⟩ : Shape).Idx) :
    Ideal.cmp .ole (max (A.w i) (-(A.w i))) (lit 0x5F800000#32) = 1#1 := congrFun h i
theorem pre_g (h : A.pre.2.1 = fun _ => 1#1) (i : (⟨3, ![3, 512, 1408]⟩ : Shape).Idx) :
    Ideal.cmp .ole (max (A.g i) (-(A.g i))) (lit 0x5F800000#32) = 1#1 := congrFun h i
theorem pre_mw (h : A.pre.2.2.1 = fun _ => 1#1) (i : (⟨3, ![3, 512, 1408]⟩ : Shape).Idx) :
    IntOp.cmpi .ne (IntOp.andi ((A.mw i : BitVec 8).setWidth 32) 127#32) 127#32 = 1#1 := congrFun h i
theorem pre_ms (h : A.pre.2.2.2.1 = fun _ => 1#1) (i : (⟨3, ![3, 512, 11]⟩ : Shape).Idx) :
    Ideal.cmp .ole (max (A.ms i) (-(A.ms i))) (lit 0x5F800000#32) = 1#1 := congrFun h i
theorem pre_v (h : A.pre.2.2.2.2.1 = fun _ => 1#1) (i : (⟨3, ![3, 512, 1408]⟩ : Shape).Idx) :
    Ideal.cmp .oge (A.v i) (lit 0x00000000#32) = 1#1 := congrFun h i
theorem pre_tiny (h : A.pre.2.2.2.2.2.1 = fun _ => 1#1) (i : (⟨3, ![3, 512, 1408]⟩ : Shape).Idx) :
    IntOp.ori (Ideal.cmp .oge (lit 0x3F733333#32 * A.v i + lit 0x3D4CCCCD#32 * A.g i * A.g i) (lit 0x00800000#32))
      (IntOp.andi (Ideal.cmp .oeq (A.g i) (lit 0x00000000#32))
        (IntOp.cmpi .eq (IntOp.andi ((A.mw i : BitVec 8).setWidth 32) 127#32) 0#32)) = 1#1 := congrFun h i
theorem pre_lr (h : A.pre.2.2.2.2.2.2.1 = fun _ => 1#1) (i : (⟨1, ![3]⟩ : Shape).Idx) :
    Ideal.cmp .ole (max (A.lr i) (-(A.lr i))) (lit 0x44800000#32) = 1#1 := congrFun h i
theorem pre_st (h : A.pre.2.2.2.2.2.2.2 = fun _ => 1#1) (i : (⟨1, ![3]⟩ : Shape).Idx) :
    IntOp.cmpi .sge (A.st i) 1#32 = 1#1 := congrFun h i

theorem lit_zero : lit 0x00000000#32 = 0 := by
  simp [Ideal.ofBits, Ideal.ieee]

theorem big_eq {x : EReal} (h : Ideal.cmp .ole (max x (-x)) (lit 0x5F800000#32) = 1#1) : ∃ t : ℝ, x = (t : EReal) ∧ |t| ≤ 2 ^ 64 := by
  have h' := ole_one h
  rw [lit_big] at h'
  obtain ⟨t, e, ht⟩ := real_of_abs h'
  exact ⟨t, e, ht.trans (by norm_num)⟩

/-- Under the precondition every column block is good. -/
theorem good (h : A.pre.1 = (fun _ => 1#1) ∧ A.pre.2.1 = (fun _ => 1#1) ∧ A.pre.2.2.1 = (fun _ => 1#1)
      ∧ A.pre.2.2.2.1 = (fun _ => 1#1) ∧ A.pre.2.2.2.2.1 = (fun _ => 1#1) ∧ A.pre.2.2.2.2.2.1 = (fun _ => 1#1)
      ∧ A.pre.2.2.2.2.2.2.1 = (fun _ => 1#1) ∧ A.pre.2.2.2.2.2.2.2 = (fun _ => 1#1))
    (b : Fin 3) (i : Fin 4) (k : Fin 11) : Good (A.col b i k) where
  lr := by
    have h' := ole_one (pre_lr h.2.2.2.2.2.2.1 (ix1 b))
    rw [lit_lr] at h'
    exact real_of_abs h'
  st := sge_one (pre_st h.2.2.2.2.2.2.2 (ix1 b))
  ms r := big_eq (pre_ms h.2.2.2.1 (ix3 b (row i r) k))
  w r c := big_eq (pre_w h.1 (ix3 b (row i r) (lane k c)))
  g r c := big_eq (pre_g h.2.1 (ix3 b (row i r) (lane k c)))
  mc r c := code_bound _ (word_ne _ (pre_mw h.2.2.1 (ix3 b (row i r) (lane k c))))
  v r c := by
    have h' := oge_one (pre_v h.2.2.2.2.1 (ix3 b (row i r) (lane k c)))
    rw [lit_zero] at h'
    exact h'
  tiny r c := by
    have hv := oge_one (pre_v h.2.2.2.2.1 (ix3 b (row i r) (lane k c)))
    rw [lit_zero] at hv
    rcases ori_one _ _ (pre_tiny h.2.2.2.2.2.1 (ix3 b (row i r) (lane k c))) with h' | h'
    · refine Or.inl ((oge_one h').trans ?_)
      show _ ≤ β₂ * A.v (ix3 b (row i r) (lane k c))
        + lit 0x3D4CCCCD#32 * A.g (ix3 b (row i r) (lane k c)) * A.g (ix3 b (row i r) (lane k c))
      exact add_le_add (mul_le_mul_of_nonneg_right decay_le hv) le_rfl
    · obtain ⟨hg, hm⟩ := andi_one _ _ h'
      refine Or.inr ⟨?_, ?_⟩
      · have := oeq_one hg
        rw [lit_zero] at this
        exact this
      · exact code_zero_eq _ (word_zero _ hm)

end Cert.Adam

end
-- ==== Proof.Column.lean ====
/- What the kernel computes on one column block (128 rows by 128 lanes) of its window, written once for the eleven
   columns the body treats alike: each definition takes the column's slabs of the arguments. -/
module

public import proofs.«01_k».proof.Proof.Gen.KernelIdeal.Frame

@[expose] public section

set_option maxRecDepth 16384

noncomputable section

namespace Cert.KernelIdeal.Column

open Idealize.ShloMosaic Idealize.SL.Sem Cert.KernelIdeal.Gen

variable {F : FTy → Type} [FloatOps F] [Named F]

/-- One step of the search for the exponent field: keep bit `k` unless the float it makes exceeds `a`. -/
def step {s : Shape} (k : BitVec 32) (a : FVec F s .f32) (t : IVec s 32) : IVec s 32 :=
  select (cmpf .olt a (bitcastToFloat .f32 (addi t (broadcast s k)))) t (addi t (broadcast s k))

/-- The exponent field of `a`, from its eight bits, the highest first; the field of one half where it is zero. -/
def field {s : Shape} (a : FVec F s .f32) : IVec s 32 :=
  let t := step 8388608#32 a (step 16777216#32 a (step 33554432#32 a (step 67108864#32 a (step 134217728#32 a
    (step 268435456#32 a (step 536870912#32 a (step 1073741824#32 a (broadcast s 0#32))))))))
  select (cmpi .eq t (broadcast s 0#32)) (broadcast s 1056964608#32) t

/-- The power of two above the field, -/
def scaleOf {s : Shape} (e : IVec s 32) : FVec F s .f32 := bitcastToFloat .f32 (addi e (broadcast s 8388608#32))

/-- and its inverse. -/
def invOf {s : Shape} (e : IVec s 32) : FVec F s .f32 := bitcastToFloat .f32 (subi (broadcast s 2122317824#32) e)

/-- Clip to the range of the format and convert. -/
def toCodes {s : Shape} (x : FVec F s .f32) : FVec F s .fp8e4m3 :=
  truncf .fp8e4m3 (minimumf (broadcast s (Scalar.ofBits .f32 0x43E00000#32))
    (maximumf (broadcast s (Scalar.ofBits .f32 0xC3E00000#32)) x)) bitsLt_fp8e4m3_f32

/-- The first moment of a column: `mb` is its scale times the decay. -/
def mNew (mb : FVec F S128x1 .f32) (g : Vec F S1x128x128 .bf16) (mc : Vec F S1x128x128 .fp8e4m3) : FVec F S128x128 .f32 :=
  addf (mulf (extf .f32 (shapeCast S128x128 mc shapeCasts_S1x128x128_S128x128) bitsLt_fp8e4m3_f32)
      (broadcastTo S128x128 mb broadcasts_S128x1_S128x128))
    (mulf (broadcast S128x128 (Scalar.ofBits .f32 0x3DCCCCCD#32)) (k0_pay12 g))

/-- The exponent fields of the first moment's rows. -/
def mField (mb : FVec F S128x1 .f32) (g : Vec F S1x128x128 .bf16) (mc : Vec F S1x128x128 .fp8e4m3) : IVec S128x1 32 :=
  field (absf (mulf (shapeCast S128x1 (multiReduction .maximumf [1] S128 (absf (mNew mb g mc)) 0xFF800000#32 reduces_S128x128_S128 (.inl rfl) rfl)
    shapeCasts_S128_S128x1) (broadcast S128x1 (Scalar.ofBits .f32 0x3B124925#32))))

def mCodes (mb : FVec F S128x1 .f32) (g : Vec F S1x128x128 .bf16) (mc : Vec F S1x128x128 .fp8e4m3) : FVec F S1x128x128 .fp8e4m3 :=
  shapeCast S1x128x128 (toCodes (mulf (mNew mb g mc) (broadcastTo S128x128 (invOf (F := F) (mField mb g mc)) broadcasts_S128x1_S128x128)))
    shapeCasts_S128x128_S1x128x128

/-- The second moment of a column. -/
def vNew (g : Vec F S1x128x128 .bf16) (v : Vec F S1x128x128 .bf16) : FVec F S128x128 .f32 := k0_pay20 (k0_pay12 g) v

def vOut (g : Vec F S1x128x128 .bf16) (v : Vec F S1x128x128 .bf16) : FVec F S1x128x128 .bf16 :=
  shapeCast S1x128x128 (truncf .bf16 (vNew g v) bitsLt_bf16_f32) shapeCasts_S128x128_S1x128x128

/-- The weights of a column, from the learning rate and the step of its batch. -/
def wNew (lr : Elt F .f32) (st : Elt F .i32) (mb : FVec F S128x1 .f32) (g : Vec F S1x128x128 .bf16) (mc : Vec F S1x128x128 .fp8e4m3)
    (v : Vec F S1x128x128 .bf16) (w : Vec F S1x128x128 .f32) : FVec F S128x128 .f32 :=
  k0_pay23 (k0_pay6 lr st) (k0_pay7 lr st) (k0_pay8 lr) (mNew mb g mc) (vNew g v) w

def wOut (lr : Elt F .f32) (st : Elt F .i32) (mb : FVec F S128x1 .f32) (g : Vec F S1x128x128 .bf16) (mc : Vec F S1x128x128 .fp8e4m3)
    (v : Vec F S1x128x128 .bf16) (w : Vec F S1x128x128 .f32) : FVec F S1x128x128 .f32 :=
  shapeCast S1x128x128 (wNew lr st mb g mc v w) shapeCasts_S128x128_S1x128x128

/-- The exponent field of a block of weights. -/
def wField (x : FVec F S128x128 .f32) : IVec S1x1 32 :=
  field (absf (mulf (broadcast S1x1 (extractAt ![0, 0, 0] (shapeCast S1x1x1
    (multiReduction .maximumf [1, 2] S1 (shapeCast S1x128x128 (absf x) shapeCasts_S128x128_S1x128x128) 0xFF800000#32 reduces_S1x128x128_S1 (.inl rfl) rfl)
    shapeCasts_S1_S1x1x1) inpos_S1x1x1_p0_0_0)) (broadcast S1x1 (Scalar.ofBits .f32 0x3B124925#32))))

def wCodes2 (x : FVec F S128x128 .f32) : FVec F S128x128 .fp8e4m3 :=
  toCodes (mulf x (broadcastTo S128x128 (invOf (F := F) (wField x)) broadcasts_S1x1_S128x128))

def wCodes (x : FVec F S128x128 .f32) : FVec F S1x128x128 .fp8e4m3 :=
  shapeCast S1x128x128 (wCodes2 x) shapeCasts_S128x128_S1x128x128

def wCodesT (x : FVec F S128x128 .f32) : FVec F S1x128x128 .fp8e4m3 :=
  shapeCast S1x128x128 (truncf .fp8e4m3 (transpose S128x128 [1, 0] (extf .bf16 (wCodes2 x) bitsLt_fp8e4m3_bf16) transposes_S128x128_p1_0_S128x128)
    bitsLt_fp8e4m3_bf16) shapeCasts_S128x128_S1x128x128

/-- The first moment's scales, laid beside the columns before: lane `k` of the row takes the scale of column `k`. -/
def mScalesStep (k : BitVec 32) (e : IVec S128x1 32) (acc : FVec F S128x128 .f32) : FVec F S128x128 .f32 :=
  select (cmpi .eq (iota .tc S128x128 32 [1] iota_S128x128_d1_w32) (broadcast S128x128 k))
    (broadcastTo S128x128 (shapeCast S128x1 (scaleOf (F := F) e) shapeCasts_S128x1_S128x1) broadcasts_S128x1_S128x128) acc

/-- The same for a block's one scale. -/
def wScalesStep (k : BitVec 32) (e : IVec S1x1 32) (acc : FVec F S1x128 .f32) : FVec F S1x128 .f32 :=
  select (cmpi .eq (extractStridedSlice S1x128 ![0, 0] (iota .tc S128x128 32 [1] iota_S128x128_d1_w32) slices_S128x128_o0_0_S1x128) (broadcast S1x128 k))
    (broadcastTo S1x128 (shapeCast S1x1 (scaleOf (F := F) e) shapeCasts_S1x1_S1x1) broadcasts_S1x1_S1x128) acc

end Cert.KernelIdeal.Column

end
-- ==== Proof.KernelPieces.lean ====
/- What the kernel's body stores, as one piece per column block: the eleven stores of each result are the column
   functions of Column.lean at the eleven columns. -/
module

public import proofs.«01_k».proof.Proof.Column

@[expose] public section

set_option maxRecDepth 16384

noncomputable section

namespace Cert.KernelIdeal.Column

open Idealize.ShloMosaic Idealize.SL.Sem Cert.KernelIdeal.Gen

variable {F : FTy → Type} [FloatOps F] [Named F]

/-- Column `k` of a window of rows of 1408 lanes. -/
abbrev colRect (k : Fin 11) : Rect S1x128x1408 :=
  Rect.unit (s := S1x128x1408) ![0, 0, 128 * k.val] ![1, 128, 128] (by
    intro a
    match a with
    | ⟨0, _⟩ => exact Nat.le_refl 1
    | ⟨1, _⟩ => exact Nat.le_refl 128
    | ⟨2, _⟩ => show 128 * k.val + 128 ≤ 1408; omega)

/-- Column `k` of the transposed window. -/
abbrev rowRect (k : Fin 11) : Rect S1x1408x128 :=
  Rect.unit (s := S1x1408x128) ![0, 128 * k.val, 0] ![1, 128, 128] (by
    intro a
    match a with
    | ⟨0, _⟩ => exact Nat.le_refl 1
    | ⟨1, _⟩ => show 128 * k.val + 128 ≤ 1408; omega
    | ⟨2, _⟩ => exact Nat.le_refl 128)

/-- The eleven columns' pieces, the last first. -/
abbrev cols {α : Type} (f : Fin 11 → α) : List α := [f 10, f 9, f 8, f 7, f 6, f 5, f 4, f 3, f 2, f 1, f 0]

theorem slicesCol (k : Fin 11) : S128x11.Slices ![0, k.val] S128x1 := by revert k; decide

section
variable (c : Dev nD) (i : grid0.Coords) (arg2 : Memref sig .tc .smem S3 .f32) (harg2 : arg2.IsWhole) (arg3 : Memref sig .tc .smem S3 .i32) (harg3 : arg3.IsWhole)
  (arg4 : Memref sig .tc .vmem S1x128x1408 .f32) (harg4 : arg4.IsWhole) (arg5 : Memref sig .tc .vmem S1x128x1408 .bf16) (harg5 : arg5.IsWhole)
  (arg6 : Memref sig .tc .vmem S1x128x1408 .fp8e4m3) (harg6 : arg6.IsWhole) (arg7 : Memref sig .tc .vmem S1x128x11 .f32) (harg7 : arg7.IsWhole)
  (arg8 : Memref sig .tc .vmem S1x128x1408 .bf16) (harg8 : arg8.IsWhole) (arg9 : Memref sig .tc .vmem S1x128x1408 .f32) (harg9 : arg9.IsWhole)
  (arg10 : Memref sig .tc .vmem S1x128x1408 .bf16) (harg10 : arg10.IsWhole) (arg11 : Memref sig .tc .vmem S1x128x1408 .fp8e4m3) (harg11 : arg11.IsWhole)
  (arg12 : Memref sig .tc .vmem S1x128x11 .f32) (harg12 : arg12.IsWhole) (arg13 : Memref sig .tc .vmem S1x128x1408 .fp8e4m3) (harg13 : arg13.IsWhole)
  (arg14 : Memref sig .tc .vmem S1x1x1x11 .f32) (harg14 : arg14.IsWhole) (arg15 : Memref sig .tc .vmem S1x1408x128 .fp8e4m3) (harg15 : arg15.IsWhole)
  (x0 : Vec F S3 .f32) (x1 : Vec F S3 .i32) (x2 : Vec F S1x128x1408 .f32) (x3 : Vec F S1x128x1408 .bf16) (x4 : Vec F S1x128x1408 .fp8e4m3)
  (x5 : Vec F S1x128x11 .f32) (x6 : Vec F S1x128x1408 .bf16)

/-- A load of column `k`. -/
abbrev ldc {e : EltTy} {m : Memref sig .tc .vmem S1x128x1408 e} (h : m.IsWhole) (x : Vec F S1x128x1408 e) (k : Fin 11) : Vec F S1x128x128 e :=
  View.readAt (Elt F) m.view (colRect k).toLoadRect (h.unread x)

/-- Column `k` of the decayed scales. -/
abbrev mbc {m : Memref sig .tc .vmem S1x128x11 .f32} (h : m.IsWhole) (x : Vec F S1x128x11 .f32) (k : Fin 11) : FVec F S128x1 .f32 :=
  extractStridedSlice S128x1 ![0, k.val] (k0_pay9 (View.readAt (Elt F) m.view
    (Rect.unit (s := S1x128x11) ![0, 0, 0] S1x128x11.size inb_S1x128x11_S1x128x11_0_0_0).toLoadRect (h.unread x))) (slicesCol k)

/-- The weights of column `k`. -/
abbrev wk (k : Fin 11) : FVec F S128x128 .f32 :=
  wNew (kernelRun0_A.sl.r c i arg2 harg2 x0) (kernelRun0_A.sl.r_1 c i arg3 harg3 x1) (mbc harg7 x5 k)
    (ldc harg5 x3 k) (ldc harg6 x4 k) (ldc harg8 x6 k) (ldc harg4 x2 k)

theorem pieces7 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).1
    = cols fun k => ⟨colRect k, shapeCast S1x128x128 (wk c i arg2 harg2 arg3 harg3 arg4 harg4 arg5 harg5 arg6 harg6 arg7 harg7 arg8 harg8 x0 x1 x2 x3 x4 x5 x6 k) shapeCasts_S128x128_S1x128x128⟩ := rfl

theorem pieces8 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.1
    = cols fun k => ⟨colRect k, vOut (ldc harg5 x3 k) (ldc harg8 x6 k)⟩ := rfl

theorem pieces9 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.1
    = cols fun k => ⟨colRect k, mCodes (mbc harg7 x5 k) (ldc harg5 x3 k) (ldc harg6 x4 k)⟩ := rfl

theorem pieces11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.1
    = cols fun k => ⟨colRect k, wCodes (wk c i arg2 harg2 arg3 harg3 arg4 harg4 arg5 harg5 arg6 harg6 arg7 harg7 arg8 harg8 x0 x1 x2 x3 x4 x5 x6 k)⟩ := rfl

theorem pieces13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.2.2.1
    = cols fun k => ⟨rowRect k, wCodesT (wk c i arg2 harg2 arg3 harg3 arg4 harg4 arg5 harg5 arg6 harg6 arg7 harg7 arg8 harg8 x0 x1 x2 x3 x4 x5 x6 k)⟩ := rfl

/-- The first moment's scales after the columns up to `n`: lane `k` of row `r` holds column `k`'s scale. -/
def mAcc (e : Fin 11 → IVec S128x1 32) : FVec F S128x128 .f32 :=
  mScalesStep 10#32 (e 10) (mScalesStep 9#32 (e 9) (mScalesStep 8#32 (e 8) (mScalesStep 7#32 (e 7) (mScalesStep 6#32 (e 6) (mScalesStep 5#32 (e 5)
    (mScalesStep 4#32 (e 4) (mScalesStep 3#32 (e 3) (mScalesStep 2#32 (e 2) (mScalesStep 1#32 (e 1) (mScalesStep 0#32 (e 0)
      (broadcast S128x128 (Scalar.ofBits .f32 0x00000000#32))))))))))))

def wAcc (e : Fin 11 → IVec S1x1 32) : FVec F S1x128 .f32 :=
  wScalesStep 10#32 (e 10) (wScalesStep 9#32 (e 9) (wScalesStep 8#32 (e 8) (wScalesStep 7#32 (e 7) (wScalesStep 6#32 (e 6) (wScalesStep 5#32 (e 5)
    (wScalesStep 4#32 (e 4) (wScalesStep 3#32 (e 3) (wScalesStep 2#32 (e 2) (wScalesStep 1#32 (e 1) (wScalesStep 0#32 (e 0)
      (broadcast S1x128 (Scalar.ofBits .f32 0x00000000#32))))))))))))

theorem pieces10 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.1
    = [⟨Rect.unit (s := S1x128x11) ![0, 0, 0] S1x128x11.size inb_S1x128x11_S1x128x11_0_0_0, k0_pay251 (mAcc fun k => mField (mbc harg7 x5 k) (ldc harg5 x3 k) (ldc harg6 x4 k))⟩] := rfl

theorem pieces12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6).2.2.2.2.2.1
    = [⟨Rect.unit (s := S1x1x1x11) ![0, 0, 0, 0] S1x1x1x11.size inb_S1x1x1x11_S1x1x1x11_0_0_0_0, k0_pay1 (k0_pay252 (wAcc fun k => wField (wk c i arg2 harg2 arg3 harg3 arg4 harg4 arg5 harg5 arg6 harg6 arg7 harg7 arg8 harg8 x0 x1 x2 x3 x4 x5 x6 k)))⟩] := rfl

end

end Cert.KernelIdeal.Column

end
-- ==== Proof.KernelColumn.lean ====
/- The column functions of the kernel, read at an index over the extended reals: the scalar formulas of Spec.lean. -/
module

public import proofs.«01_k».proof.Proof.KernelPieces
public import proofs.«01_k».proof.Proof.Spec

@[expose] public section

set_option maxRecDepth 16384

noncomputable section

namespace Cert.KernelIdeal.Column

open Idealize.ShloMosaic Idealize.SL.Sem Cert.KernelIdeal.Gen Cert.Adam

theorem step_apply {s : Shape} (k : BitVec 32) (a : FVec Ideal s .f32) (t : IVec s 32) (j : s.Idx) :
    step k a t j = stepS k (a j) (t j) := rfl

theorem field_apply {s : Shape} (a : FVec Ideal s .f32) (j : s.Idx) : field a j = fieldS (a j) := by
  have e : ∀ t : IVec s 32, select (cmpi .eq t (broadcast s 0#32)) (broadcast s 1056964608#32) t j
      = Scalar.select (IntOp.cmpi .eq (t j) 0#32) 1056964608#32 (t j) := fun _ => rfl
  have hs : ∀ k t, step k a t j = stepS k (a j) (t j) := fun k t => step_apply k a t j
  have hb : broadcast s 0#32 j = 0#32 := rfl
  refine (e _).trans ?_
  unfold fieldS searchS
  simp only [hs, hb]

theorem scaleOf_apply {s : Shape} (e : IVec s 32) (j : s.Idx) :
    scaleOf (F := Ideal) e j = lit (IntOp.addi (e j) 8388608#32) := rfl

theorem invOf_apply {s : Shape} (e : IVec s 32) (j : s.Idx) :
    invOf (F := Ideal) e j = lit (IntOp.subi 2122317824#32 (e j)) := rfl

theorem toCodes_apply {s : Shape} (x : FVec Ideal s .f32) (j : s.Idx) : toCodes (F := Ideal) x j = clip (x j) := rfl

theorem named_b1 : (Named.named κ "b1" 0x3F666666#32 : Ideal .f32) = β₁ := rfl
theorem named_b2 : (Named.named κ "b2" 0x3F733333#32 : Ideal .f32) = β₂ := rfl
theorem named_log_b1 : (Named.named κ "log_b1" 0xBDD7C741#32 : Ideal .f32) = ((Real.log (9 / 10) : ℝ) : EReal) := rfl
theorem named_log_b2 : (Named.named κ "log_b2" 0xBD5218EB#32 : Ideal .f32) = ((Real.log (19 / 20) : ℝ) : EReal) := rfl

section
variable (D : Col) (mb : FVec Ideal S128x1 .f32) (g : Vec Ideal S1x128x128 .bf16) (mc : Vec Ideal S1x128x128 .fp8e4m3)
  (v : Vec Ideal S1x128x128 .bf16) (w : Vec Ideal S1x128x128 .f32)

/-- What a column's slabs hold. -/
structure Reads : Prop where
  mb : ∀ r, mb (ix2 r 0) = D.ms r * β₁
  g : ∀ r c, g (ix3 0 r c) = D.g r c
  mc : ∀ r c, mc (ix3 0 r c) = D.mc r c
  v : ∀ r c, v (ix3 0 r c) = D.v r c
  w : ∀ r c, w (ix3 0 r c) = D.w r c

variable {D mb g mc v w} (h : Reads D mb g mc v w)
include h

theorem mNew_apply (r c : Fin 128) : mNew mb g mc (ix2 r c) = D.kM r c := by
  unfold mNew k0_pay12
  pointwise
  rw [h.mb, h.g, h.mc]
  rfl

theorem vNew_apply (r c : Fin 128) : vNew g v (ix2 r c) = D.vN r c := by
  unfold vNew k0_pay20 k0_pay12
  pointwise
  rw [h.v, h.g]
  rfl

theorem vOut_apply (r c : Fin 128) : vOut g v (ix3 0 r c) = D.vN r c := by
  rw [← vNew_apply h]
  unfold vOut
  pointwise

theorem mField_apply (r : Fin 128) : mField mb g mc (ix2 r 0) = fieldS (max (part (rowMax (D.kM r))) (-(part (rowMax (D.kM r))))) := by
  unfold mField
  rw [field_apply]
  have e : rowMax (D.kM r) = (shapeCast S128x1 (multiReduction .maximumf [1] S128 (absf (mNew mb g mc)) 0xFF800000#32 reduces_S128x128_S128 (.inl rfl) rfl)
      shapeCasts_S128_S128x1) (ix2 r 0) := by
    pointwise
    unfold rowMax
    simp only [mNew_apply h]
    rfl
  rw [e]
  rfl

theorem mCodes_apply (r c : Fin 128) : mCodes mb g mc (ix3 0 r c) = D.kMCode r c := by
  unfold mCodes
  have e : shapeCast S1x128x128 (toCodes (mulf (mNew mb g mc) (broadcastTo S128x128 (invOf (F := Ideal) (mField mb g mc)) broadcasts_S128x1_S128x128)))
      shapeCasts_S128x128_S1x128x128 (ix3 0 r c)
      = toCodes (mulf (mNew mb g mc) (broadcastTo S128x128 (invOf (F := Ideal) (mField mb g mc)) broadcasts_S128x1_S128x128)) (ix2 r c) := by
    pointwise
  rw [e, toCodes_apply]
  have e' : (broadcastTo S128x128 (invOf (F := Ideal) (mField mb g mc)) broadcasts_S128x1_S128x128) (ix2 r c) = kInv (rowMax (D.kM r)) := by
    have : (broadcastTo S128x128 (invOf (F := Ideal) (mField mb g mc)) broadcasts_S128x1_S128x128) (ix2 r c) = invOf (F := Ideal) (mField mb g mc) (ix2 r 0) := by
      pointwise
    rw [this, invOf_apply, mField_apply h]; rfl
  show clip (mNew mb g mc (ix2 r c) * _) = _
  rw [e', mNew_apply h]
  rfl

theorem wNew_apply (r c : Fin 128) : wNew (F := Ideal) D.lr D.st mb g mc v w (ix2 r c) = D.kW r c := by
  unfold wNew
  have hm := mNew_apply h r c
  have hv := vNew_apply h r c
  generalize mNew mb g mc = M at hm ⊢
  generalize vNew g v = V at hv ⊢
  unfold k0_pay23 k0_pay6 k0_pay7 k0_pay8 k0_pay5 k0_pay4 k0_pay3 k0_pay2
  pointwise
  rw [hm, hv, h.w, named_log_b1, named_log_b2]
  rfl
end

section
variable {D : Col} {x : FVec Ideal S128x128 .f32} (h : ∀ r c, x (ix2 r c) = D.kW r c)
include h

theorem wField_apply : wField x (ix2 0 0) = fieldS (max (part (blockMax D.kW)) (-(part (blockMax D.kW)))) := by
  unfold wField
  rw [field_apply]
  have e : blockMax D.kW = (broadcast S1x1 (extractAt ![0, 0, 0] (shapeCast S1x1x1
    (multiReduction .maximumf [1, 2] S1 (shapeCast S1x128x128 (absf x) shapeCasts_S128x128_S1x128x128) 0xFF800000#32 reduces_S1x128x128_S1 (.inl rfl) rfl)
    shapeCasts_S1_S1x1x1) inpos_S1x1x1_p0_0_0)) (ix2 0 0) := by
    pointwise
    unfold blockMax
    simp only [h]
    rfl
  rw [e]
  rfl

theorem wCodes2_apply (r c : Fin 128) : wCodes2 x (ix2 r c) = D.kWCode r c := by
  unfold wCodes2
  rw [toCodes_apply]
  have e' : (broadcastTo S128x128 (invOf (F := Ideal) (wField x)) broadcasts_S1x1_S128x128) (ix2 r c) = kInv (blockMax D.kW) := by
    have : (broadcastTo S128x128 (invOf (F := Ideal) (wField x)) broadcasts_S1x1_S128x128) (ix2 r c) = invOf (F := Ideal) (wField x) (ix2 0 0) := by
      pointwise
    rw [this, invOf_apply, wField_apply h]; rfl
  show clip (x (ix2 r c) * _) = _
  rw [e', h]
  rfl

theorem wCodes_apply (r c : Fin 128) : wCodes x (ix3 0 r c) = D.kWCode r c := by
  rw [← wCodes2_apply h]
  unfold wCodes
  pointwise

theorem wCodesT_apply (r c : Fin 128) : wCodesT x (ix3 0 c r) = D.kWCode r c := by
  rw [← wCodes2_apply h]
  unfold wCodesT
  pointwise
end

theorem select_eq {α : Type} (x k : BitVec 32) (a b : α) :
    Scalar.select (IntOp.cmpi .eq x k) a b = if x = k then a else b := by
  by_cases hk : x = k
  · subst hk
    simp [Scalar.select, IntOp.cmpi]
  · have : (x == k) = false := by simpa using hk
    simp [Scalar.select, IntOp.cmpi, hk, this]

theorem mScalesStep_apply (k : BitVec 32) (e : IVec S128x1 32) (acc : FVec Ideal S128x128 .f32) (r c : Fin 128) :
    mScalesStep (F := Ideal) k e acc (ix2 r c) = if BitVec.ofNat 32 c.val = k then scaleOf (F := Ideal) e (ix2 r 0) else acc (ix2 r c) := by
  unfold mScalesStep
  pointwise
  rw [select_eq]

theorem wScalesStep_apply (k : BitVec 32) (e : IVec S1x1 32) (acc : FVec Ideal S1x128 .f32) (c : Fin 128) :
    wScalesStep (F := Ideal) k e acc (ix2 0 c) = if BitVec.ofNat 32 c.val = k then scaleOf (F := Ideal) e (ix2 0 0) else acc (ix2 0 c) := by
  unfold wScalesStep
  pointwise
  rw [select_eq]

/-- Lane `k` of the laid-out scales is column `k`'s. -/
theorem mAcc_apply (e : Fin 11 → IVec S128x1 32) (r : Fin 128) (k : Fin 11) :
    k0_pay251 (F := Ideal) (mAcc e) (ix3 0 r k) = scaleOf (F := Ideal) (e k) (ix2 r 0) := by
  have : k0_pay251 (F := Ideal) (mAcc e) (ix3 0 r k) = mAcc (F := Ideal) e (ix2 r ⟨k.val, by omega⟩) := by
    unfold k0_pay251
    pointwise
  rw [this]
  unfold mAcc
  simp only [mScalesStep_apply]
  fin_cases k <;> simp

theorem wAcc_apply (e : Fin 11 → IVec S1x1 32) (k : Fin 11) :
    k0_pay1 (k0_pay252 (F := Ideal) (wAcc e)) (ix4 0 0 0 k) = scaleOf (F := Ideal) (e k) (ix2 0 0) := by
  have : k0_pay1 (k0_pay252 (F := Ideal) (wAcc e)) (ix4 0 0 0 k) = wAcc (F := Ideal) e (ix2 0 ⟨k.val, by omega⟩) := by
    unfold k0_pay1 k0_pay252
    pointwise
  rw [this]
  unfold wAcc
  simp only [wScalesStep_apply]
  fin_cases k <;> simp

theorem mbc_apply (x : Vec Ideal S1x128x11 .f32) (r : Fin 128) (k : Fin 11) :
    extractStridedSlice S128x1 ![0, k.val] (k0_pay9 (F := Ideal) x) (slicesCol k) (ix2 r 0) = x (ix3 0 r k) * β₁ := by
  unfold k0_pay9
  pointwise
  rfl

end Cert.KernelIdeal.Column

end
-- ==== Proof.KernelBlock.lean ====
/- What one block of the kernel computes, over the extended reals: each result's block, read at an index, is the
   formula of Spec.lean at the index's column block. -/
module

public import proofs.«01_k».proof.Proof.KernelColumn
public import proofs.«01_k».proof.Proof.Args
public import Idealize.ShloMosaic.Lib.WholeRead

@[expose] public section

set_option maxRecDepth 16384

noncomputable section

namespace Cert.KernelIdeal.Column

open Idealize.ShloMosaic Idealize.SL.Sem Cert.KernelIdeal.Gen Cert.Adam

/-- The column blocks of a window. -/
def blockCol (lr : EReal) (st : BitVec 32) (x2 : Vec Ideal S1x128x1408 .f32) (x3 : Vec Ideal S1x128x1408 .bf16)
    (x4 : Vec Ideal S1x128x1408 .fp8e4m3) (x5 : Vec Ideal S1x128x11 .f32) (x6 : Vec Ideal S1x128x1408 .bf16) (k : Fin 11) : Col where
  lr := lr
  st := st
  ms r := x5 (ix3 0 r k)
  w r c := x2 (ix3 0 r (lane k c))
  g r c := x3 (ix3 0 r (lane k c))
  mc r c := x4 (ix3 0 r (lane k c))
  v r c := x6 (ix3 0 r (lane k c))

theorem forall_cols {α : Type} {P : α → Prop} {f : Fin 11 → α} (h : ∀ k, P (f k)) : ∀ p ∈ cols f, P p := by
  intro p hp
  simp only [cols, List.mem_cons, List.not_mem_nil, or_false] at hp
  rcases hp with h' | h' | h' | h' | h' | h' | h' | h' | h' | h' | h' <;> rw [h'] <;> exact h _

theorem colRect_idx (k : Fin 11) (r c : Fin 128) : (colRect k).toLoadRect.idx (ix3 0 r c) = ix3 0 r (lane k c) := by
  funext a
  match a with
  | ⟨0, _⟩ => rfl
  | ⟨1, _⟩ => exact Fin.ext (by show 0 + 1 * r.val = r.val; omega)
  | ⟨2, _⟩ => exact Fin.ext (by show 128 * k.val + 1 * c.val = 128 * k.val + c.val; omega)

theorem colRect_emb (k : Fin 11) (r c : Fin 128) : (colRect k).emb (ix3 0 r c) = ix3 0 r (lane k c) := colRect_idx k r c

theorem rowRect_emb (k : Fin 11) (c r : Fin 128) : (rowRect k).emb (ix3 0 c r) = ix3 0 (lane k c) r := by
  funext a
  match a with
  | ⟨0, _⟩ => rfl
  | ⟨1, _⟩ => exact Fin.ext (by show 128 * k.val + 1 * c.val = 128 * k.val + c.val; omega)
  | ⟨2, _⟩ => exact Fin.ext (by show 0 + 1 * r.val = r.val; omega)

theorem ldc_apply {e : EltTy} {m : Memref sig .tc .vmem S1x128x1408 e} (h : m.IsWhole) (x : Vec Ideal S1x128x1408 e) (k : Fin 11)
    (r c : Fin 128) : ldc h x k (ix3 0 r c) = x (ix3 0 r (lane k c)) :=
  (h.readAt_unread x _ _).trans (congrArg x (colRect_idx k r c))

theorem whole3_idx (r : Fin 128) (k : Fin 11) :
    (Rect.unit (s := S1x128x11) ![0, 0, 0] S1x128x11.size inb_S1x128x11_S1x128x11_0_0_0).toLoadRect.idx (ix3 0 r k) = ix3 0 r k := by
  funext a
  match a with
  | ⟨0, _⟩ => rfl
  | ⟨1, _⟩ => exact Fin.ext (by show 0 + 1 * r.val = r.val; omega)
  | ⟨2, _⟩ => exact Fin.ext (by show 0 + 1 * k.val = k.val; omega)

theorem whole4_idx (k : Fin 11) :
    (Rect.unit (s := S1x1x1x11) ![0, 0, 0, 0] S1x1x1x11.size inb_S1x1x1x11_S1x1x1x11_0_0_0_0).toLoadRect.idx (ix4 0 0 0 k) = ix4 0 0 0 k := by
  funext a
  match a with
  | ⟨0, _⟩ => rfl
  | ⟨1, _⟩ => rfl
  | ⟨2, _⟩ => rfl
  | ⟨3, _⟩ => exact Fin.ext (by show 0 + 1 * k.val = k.val; omega)

theorem eq_unit3 {n1 n2 : Nat} (x : (⟨3, ![1, n1, n2]⟩ : Shape).Idx) : x = ix3 0 (x 1) (x 2) :=
  (eq_ix3 x).trans (by rw [show x 0 = (0 : Fin 1) from Subsingleton.elim (α := Fin 1) _ _]; rfl)

theorem eq_unit4 {n : Nat} (x : (⟨4, ![1, 1, 1, n]⟩ : Shape).Idx) : x = ix4 0 0 0 (x 3) :=
  (eq_ix4 x).trans (by
    rw [show x 0 = (0 : Fin 1) from Subsingleton.elim (α := Fin 1) _ _, show x 1 = (0 : Fin 1) from Subsingleton.elim (α := Fin 1) _ _,
      show x 2 = (0 : Fin 1) from Subsingleton.elim (α := Fin 1) _ _]; rfl)

theorem cols_piece {e : EltTy} (G : S1x128x1408.Idx → Elt Ideal e) (f : Fin 11 → S1x128x128.Idx → Elt Ideal e)
    (h : ∀ k r c, f k (ix3 0 r c) = G (ix3 0 r (lane k c))) :
    ∀ p ∈ cols (fun k => (⟨colRect k, f k⟩ : View.Piece (Elt Ideal) S1x128x1408 e)), ∀ x : p.1.shape.Idx, p.2 x = G (p.1.emb x) := by
  refine forall_cols fun k => ?_
  intro (x : S1x128x128.Idx)
  show f k x = G ((colRect k).emb x)
  obtain ⟨r, c, rfl⟩ : ∃ r c : Fin 128, x = ix3 0 r c := ⟨x 1, x 2, eq_unit3 x⟩
  exact (h k r c).trans (congrArg G (colRect_emb k r c).symm)

theorem rows_piece {e : EltTy} (G : S1x1408x128.Idx → Elt Ideal e) (f : Fin 11 → S1x128x128.Idx → Elt Ideal e)
    (h : ∀ k c r, f k (ix3 0 c r) = G (ix3 0 (lane k c) r)) :
    ∀ p ∈ cols (fun k => (⟨rowRect k, f k⟩ : View.Piece (Elt Ideal) S1x1408x128 e)), ∀ x : p.1.shape.Idx, p.2 x = G (p.1.emb x) := by
  refine forall_cols fun k => ?_
  intro (x : S1x128x128.Idx)
  show f k x = G ((rowRect k).emb x)
  obtain ⟨r, c, rfl⟩ : ∃ r c : Fin 128, x = ix3 0 r c := ⟨x 1, x 2, eq_unit3 x⟩
  exact (h k r c).trans (congrArg G (rowRect_emb k r c).symm)

theorem whole3_piece {e : EltTy} (G f : S1x128x11.Idx → Elt Ideal e) (h : ∀ r k, f (ix3 0 r k) = G (ix3 0 r k)) :
    ∀ p ∈ [(⟨Rect.unit (s := S1x128x11) ![0, 0, 0] S1x128x11.size inb_S1x128x11_S1x128x11_0_0_0, f⟩ : View.Piece (Elt Ideal) S1x128x11 e)],
      ∀ x : p.1.shape.Idx, p.2 x = G (p.1.emb x) := by
  intro p hp
  rw [List.mem_singleton.mp hp]
  intro (x : S1x128x11.Idx)
  show f x = G _
  obtain ⟨r, c, rfl⟩ : ∃ (r : Fin 128) (c : Fin 11), x = ix3 0 r c := ⟨x 1, x 2, eq_unit3 x⟩
  exact (h _ _).trans (congrArg G (whole3_idx _ _).symm)

theorem whole4_piece {e : EltTy} (G f : S1x1x1x11.Idx → Elt Ideal e) (h : ∀ k, f (ix4 0 0 0 k) = G (ix4 0 0 0 k)) :
    ∀ p ∈ [(⟨Rect.unit (s := S1x1x1x11) ![0, 0, 0, 0] S1x1x1x11.size inb_S1x1x1x11_S1x1x1x11_0_0_0_0, f⟩ : View.Piece (Elt Ideal) S1x1x1x11 e)],
      ∀ x : p.1.shape.Idx, p.2 x = G (p.1.emb x) := by
  intro p hp
  rw [List.mem_singleton.mp hp]
  intro (x : S1x1x1x11.Idx)
  show f x = G _
  obtain ⟨r, rfl⟩ : ∃ (r : Fin 11), x = ix4 0 0 0 r := ⟨x 3, eq_unit4 x⟩
  exact (h _).trans (congrArg G (whole4_idx _).symm)

section
variable (c : Dev nD) (i : grid0.Coords) (arg2 : Memref sig .tc .smem S3 .f32) (harg2 : arg2.IsWhole) (arg3 : Memref sig .tc .smem S3 .i32) (harg3 : arg3.IsWhole)
  (arg4 : Memref sig .tc .vmem S1x128x1408 .f32) (harg4 : arg4.IsWhole) (arg5 : Memref sig .tc .vmem S1x128x1408 .bf16) (harg5 : arg5.IsWhole)
  (arg6 : Memref sig .tc .vmem S1x128x1408 .fp8e4m3) (harg6 : arg6.IsWhole) (arg7 : Memref sig .tc .vmem S1x128x11 .f32) (harg7 : arg7.IsWhole)
  (arg8 : Memref sig .tc .vmem S1x128x1408 .bf16) (harg8 : arg8.IsWhole) (arg9 : Memref sig .tc .vmem S1x128x1408 .f32) (harg9 : arg9.IsWhole)
  (arg10 : Memref sig .tc .vmem S1x128x1408 .bf16) (harg10 : arg10.IsWhole) (arg11 : Memref sig .tc .vmem S1x128x1408 .fp8e4m3) (harg11 : arg11.IsWhole)
  (arg12 : Memref sig .tc .vmem S1x128x11 .f32) (harg12 : arg12.IsWhole) (arg13 : Memref sig .tc .vmem S1x128x1408 .fp8e4m3) (harg13 : arg13.IsWhole)
  (arg14 : Memref sig .tc .vmem S1x1x1x11 .f32) (harg14 : arg14.IsWhole) (arg15 : Memref sig .tc .vmem S1x1408x128 .fp8e4m3) (harg15 : arg15.IsWhole)
  (x0 : Vec Ideal S3 .f32) (x1 : Vec Ideal S3 .i32) (x2 : Vec Ideal S1x128x1408 .f32) (x3 : Vec Ideal S1x128x1408 .bf16) (x4 : Vec Ideal S1x128x1408 .fp8e4m3)
  (x5 : Vec Ideal S1x128x11 .f32) (x6 : Vec Ideal S1x128x1408 .bf16)

theorem reads (lr : EReal) (st : BitVec 32) (k : Fin 11) : Reads (blockCol lr st x2 x3 x4 x5 x6 k) (mbc harg7 x5 k) (ldc harg5 x3 k) (ldc harg6 x4 k) (ldc harg8 x6 k) (ldc harg4 x2 k) where
  mb r := (mbc_apply _ r k).trans (congrArg (· * β₁) ((harg7.readAt_unread x5 _ _).trans (congrArg x5 (whole3_idx r k))))
  g := ldc_apply harg5 x3 k
  mc := ldc_apply harg6 x4 k
  v := ldc_apply harg8 x6 k
  w := ldc_apply harg4 x2 k

theorem wk_apply (k : Fin 11) (r c' : Fin 128) :
    wk (F := Ideal) c i arg2 harg2 arg3 harg3 arg4 harg4 arg5 harg5 arg6 harg6 arg7 harg7 arg8 harg8 x0 x1 x2 x3 x4 x5 x6 k (ix2 r c')
      = (blockCol (kernelRun0_A.sl.r (F := Ideal) c i arg2 harg2 x0) (kernelRun0_A.sl.r_1 (F := Ideal) c i arg3 harg3 x1) x2 x3 x4 x5 x6 k).kW r c' :=
  wNew_apply (D := (blockCol (kernelRun0_A.sl.r (F := Ideal) c i arg2 harg2 x0) (kernelRun0_A.sl.r_1 (F := Ideal) c i arg3 harg3 x1) x2 x3 x4 x5 x6 k)) (reads arg4 harg4 arg5 harg5 arg6 harg6 arg7 harg7 arg8 harg8 x2 x3 x4 x5 x6 _ _ k) r c'

theorem out7_apply (y : S1x128x1408.Idx) : out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y
    = (blockCol (kernelRun0_A.sl.r (F := Ideal) c i arg2 harg2 x0) (kernelRun0_A.sl.r_1 (F := Ideal) c i arg3 harg3 x1) x2 x3 x4 x5 x6 (colOf (y 2))).kW (y 1) (laneOf (y 2)) := by
  unfold out0_A_7
  rw [View.read_writes_junk_eq_canon]
  refine View.canon_apply_of_pieces (fun y : S1x128x1408.Idx => (blockCol (kernelRun0_A.sl.r (F := Ideal) c i arg2 harg2 x0) (kernelRun0_A.sl.r_1 (F := Ideal) c i arg3 harg3 x1) x2 x3 x4 x5 x6 (colOf (y 2))).kW (y 1) (laneOf (y 2)))
    _ ?_ y (cover0_A_7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y)
  rw [pieces7]
  refine cols_piece (e := .f32) (fun y : S1x128x1408.Idx => (blockCol (kernelRun0_A.sl.r (F := Ideal) c i arg2 harg2 x0) (kernelRun0_A.sl.r_1 (F := Ideal) c i arg3 harg3 x1) x2 x3 x4 x5 x6 (colOf (y 2))).kW (y 1) (laneOf (y 2))) _ fun k r c' => ?_
  show _ = (blockCol (kernelRun0_A.sl.r (F := Ideal) c i arg2 harg2 x0) (kernelRun0_A.sl.r_1 (F := Ideal) c i arg3 harg3 x1) x2 x3 x4 x5 x6 (colOf (lane k c'))).kW r (laneOf (lane k c'))
  rw [colOf_lane, laneOf_lane]
  refine Eq.trans ?_ (wk_apply c i arg2 harg2 arg3 harg3 arg4 harg4 arg5 harg5 arg6 harg6 arg7 harg7 arg8 harg8 x0 x1 x2 x3 x4 x5 x6 k r c')
  pointwise

theorem out8_apply (y : S1x128x1408.Idx) : out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y
    = (blockCol (kernelRun0_A.sl.r (F := Ideal) c i arg2 harg2 x0) (kernelRun0_A.sl.r_1 (F := Ideal) c i arg3 harg3 x1) x2 x3 x4 x5 x6 (colOf (y 2))).vN (y 1) (laneOf (y 2)) := by
  unfold out0_A_8
  rw [View.read_writes_junk_eq_canon]
  refine View.canon_apply_of_pieces (fun y : S1x128x1408.Idx => (blockCol (kernelRun0_A.sl.r (F := Ideal) c i arg2 harg2 x0) (kernelRun0_A.sl.r_1 (F := Ideal) c i arg3 harg3 x1) x2 x3 x4 x5 x6 (colOf (y 2))).vN (y 1) (laneOf (y 2)))
    _ ?_ y (cover0_A_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y)
  rw [pieces8]
  refine cols_piece (e := .bf16) (fun y : S1x128x1408.Idx => (blockCol (kernelRun0_A.sl.r (F := Ideal) c i arg2 harg2 x0) (kernelRun0_A.sl.r_1 (F := Ideal) c i arg3 harg3 x1) x2 x3 x4 x5 x6 (colOf (y 2))).vN (y 1) (laneOf (y 2))) _ fun k r c' => ?_
  show _ = (blockCol (kernelRun0_A.sl.r (F := Ideal) c i arg2 harg2 x0) (kernelRun0_A.sl.r_1 (F := Ideal) c i arg3 harg3 x1) x2 x3 x4 x5 x6 (colOf (lane k c'))).vN r (laneOf (lane k c'))
  rw [colOf_lane, laneOf_lane]
  exact vOut_apply (D := (blockCol (kernelRun0_A.sl.r (F := Ideal) c i arg2 harg2 x0) (kernelRun0_A.sl.r_1 (F := Ideal) c i arg3 harg3 x1) x2 x3 x4 x5 x6 k)) (reads arg4 harg4 arg5 harg5 arg6 harg6 arg7 harg7 arg8 harg8 x2 x3 x4 x5 x6 _ _ k) r c'

theorem out9_apply (y : S1x128x1408.Idx) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y
    = (blockCol (kernelRun0_A.sl.r (F := Ideal) c i arg2 harg2 x0) (kernelRun0_A.sl.r_1 (F := Ideal) c i arg3 harg3 x1) x2 x3 x4 x5 x6 (colOf (y 2))).kMCode (y 1) (laneOf (y 2)) := by
  unfold out0_A_9
  rw [View.read_writes_junk_eq_canon]
  refine View.canon_apply_of_pieces (fun y : S1x128x1408.Idx => (blockCol (kernelRun0_A.sl.r (F := Ideal) c i arg2 harg2 x0) (kernelRun0_A.sl.r_1 (F := Ideal) c i arg3 harg3 x1) x2 x3 x4 x5 x6 (colOf (y 2))).kMCode (y 1) (laneOf (y 2)))
    _ ?_ y (cover0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y)
  rw [pieces9]
  refine cols_piece (e := .fp8e4m3) (fun y : S1x128x1408.Idx => (blockCol (kernelRun0_A.sl.r (F := Ideal) c i arg2 harg2 x0) (kernelRun0_A.sl.r_1 (F := Ideal) c i arg3 harg3 x1) x2 x3 x4 x5 x6 (colOf (y 2))).kMCode (y 1) (laneOf (y 2))) _ fun k r c' => ?_
  show _ = (blockCol (kernelRun0_A.sl.r (F := Ideal) c i arg2 harg2 x0) (kernelRun0_A.sl.r_1 (F := Ideal) c i arg3 harg3 x1) x2 x3 x4 x5 x6 (colOf (lane k c'))).kMCode r (laneOf (lane k c'))
  rw [colOf_lane, laneOf_lane]
  exact mCodes_apply (D := (blockCol (kernelRun0_A.sl.r (F := Ideal) c i arg2 harg2 x0) (kernelRun0_A.sl.r_1 (F := Ideal) c i arg3 harg3 x1) x2 x3 x4 x5 x6 k)) (reads arg4 harg4 arg5 harg5 arg6 harg6 arg7 harg7 arg8 harg8 x2 x3 x4 x5 x6 _ _ k) r c'

theorem out11_apply (y : S1x128x1408.Idx) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y
    = (blockCol (kernelRun0_A.sl.r (F := Ideal) c i arg2 harg2 x0) (kernelRun0_A.sl.r_1 (F := Ideal) c i arg3 harg3 x1) x2 x3 x4 x5 x6 (colOf (y 2))).kWCode (y 1) (laneOf (y 2)) := by
  unfold out0_A_11
  rw [View.read_writes_junk_eq_canon]
  refine View.canon_apply_of_pieces (fun y : S1x128x1408.Idx => (blockCol (kernelRun0_A.sl.r (F := Ideal) c i arg2 harg2 x0) (kernelRun0_A.sl.r_1 (F := Ideal) c i arg3 harg3 x1) x2 x3 x4 x5 x6 (colOf (y 2))).kWCode (y 1) (laneOf (y 2)))
    _ ?_ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y)
  rw [pieces11]
  refine cols_piece (e := .fp8e4m3) (fun y : S1x128x1408.Idx => (blockCol (kernelRun0_A.sl.r (F := Ideal) c i arg2 harg2 x0) (kernelRun0_A.sl.r_1 (F := Ideal) c i arg3 harg3 x1) x2 x3 x4 x5 x6 (colOf (y 2))).kWCode (y 1) (laneOf (y 2))) _ fun k r c' => ?_
  show _ = (blockCol (kernelRun0_A.sl.r (F := Ideal) c i arg2 harg2 x0) (kernelRun0_A.sl.r_1 (F := Ideal) c i arg3 harg3 x1) x2 x3 x4 x5 x6 (colOf (lane k c'))).kWCode r (laneOf (lane k c'))
  rw [colOf_lane, laneOf_lane]
  exact wCodes_apply (D := (blockCol (kernelRun0_A.sl.r (F := Ideal) c i arg2 harg2 x0) (kernelRun0_A.sl.r_1 (F := Ideal) c i arg3 harg3 x1) x2 x3 x4 x5 x6 k)) (wk_apply c i arg2 harg2 arg3 harg3 arg4 harg4 arg5 harg5 arg6 harg6 arg7 harg7 arg8 harg8 x0 x1 x2 x3 x4 x5 x6 k) r c'

theorem out13_apply (y : S1x1408x128.Idx) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y
    = (blockCol (kernelRun0_A.sl.r (F := Ideal) c i arg2 harg2 x0) (kernelRun0_A.sl.r_1 (F := Ideal) c i arg3 harg3 x1) x2 x3 x4 x5 x6 (colOf (y 1))).kWCode (y 2) (laneOf (y 1)) := by
  unfold out0_A_13
  rw [View.read_writes_junk_eq_canon]
  refine View.canon_apply_of_pieces (fun y : S1x1408x128.Idx => (blockCol (kernelRun0_A.sl.r (F := Ideal) c i arg2 harg2 x0) (kernelRun0_A.sl.r_1 (F := Ideal) c i arg3 harg3 x1) x2 x3 x4 x5 x6 (colOf (y 1))).kWCode (y 2) (laneOf (y 1)))
    _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y)
  rw [pieces13]
  refine rows_piece (e := .fp8e4m3) (fun y : S1x1408x128.Idx => (blockCol (kernelRun0_A.sl.r (F := Ideal) c i arg2 harg2 x0) (kernelRun0_A.sl.r_1 (F := Ideal) c i arg3 harg3 x1) x2 x3 x4 x5 x6 (colOf (y 1))).kWCode (y 2) (laneOf (y 1))) _ fun k c' r => ?_
  show _ = (blockCol (kernelRun0_A.sl.r (F := Ideal) c i arg2 harg2 x0) (kernelRun0_A.sl.r_1 (F := Ideal) c i arg3 harg3 x1) x2 x3 x4 x5 x6 (colOf (lane k c'))).kWCode r (laneOf (lane k c'))
  rw [colOf_lane, laneOf_lane]
  exact wCodesT_apply (D := (blockCol (kernelRun0_A.sl.r (F := Ideal) c i arg2 harg2 x0) (kernelRun0_A.sl.r_1 (F := Ideal) c i arg3 harg3 x1) x2 x3 x4 x5 x6 k)) (wk_apply c i arg2 harg2 arg3 harg3 arg4 harg4 arg5 harg5 arg6 harg6 arg7 harg7 arg8 harg8 x0 x1 x2 x3 x4 x5 x6 k) r c'

theorem out10_apply (y : S1x128x11.Idx) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y
    = (blockCol (kernelRun0_A.sl.r (F := Ideal) c i arg2 harg2 x0) (kernelRun0_A.sl.r_1 (F := Ideal) c i arg3 harg3 x1) x2 x3 x4 x5 x6 (y 2)).kMScale (y 1) := by
  unfold out0_A_10
  rw [View.read_writes_junk_eq_canon]
  refine View.canon_apply_of_pieces (fun y : S1x128x11.Idx => (blockCol (kernelRun0_A.sl.r (F := Ideal) c i arg2 harg2 x0) (kernelRun0_A.sl.r_1 (F := Ideal) c i arg3 harg3 x1) x2 x3 x4 x5 x6 (y 2)).kMScale (y 1))
    _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y)
  rw [pieces10]
  refine whole3_piece (e := .f32) (fun y : S1x128x11.Idx => (blockCol (kernelRun0_A.sl.r (F := Ideal) c i arg2 harg2 x0) (kernelRun0_A.sl.r_1 (F := Ideal) c i arg3 harg3 x1) x2 x3 x4 x5 x6 (y 2)).kMScale (y 1)) _ fun r k => ?_
  refine (mAcc_apply _ r k).trans ?_
  rw [scaleOf_apply]
  exact congrArg (fun e => lit (IntOp.addi e 8388608#32)) (mField_apply (D := (blockCol (kernelRun0_A.sl.r (F := Ideal) c i arg2 harg2 x0) (kernelRun0_A.sl.r_1 (F := Ideal) c i arg3 harg3 x1) x2 x3 x4 x5 x6 k)) (reads arg4 harg4 arg5 harg5 arg6 harg6 arg7 harg7 arg8 harg8 x2 x3 x4 x5 x6 _ _ k) r)

theorem out12_apply (y : S1x1x1x11.Idx) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y
    = (blockCol (kernelRun0_A.sl.r (F := Ideal) c i arg2 harg2 x0) (kernelRun0_A.sl.r_1 (F := Ideal) c i arg3 harg3 x1) x2 x3 x4 x5 x6 (y 3)).kWScale := by
  unfold out0_A_12
  rw [View.read_writes_junk_eq_canon]
  refine View.canon_apply_of_pieces (fun y : S1x1x1x11.Idx => (blockCol (kernelRun0_A.sl.r (F := Ideal) c i arg2 harg2 x0) (kernelRun0_A.sl.r_1 (F := Ideal) c i arg3 harg3 x1) x2 x3 x4 x5 x6 (y 3)).kWScale)
    _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y)
  rw [pieces12]
  refine whole4_piece (e := .f32) (fun y : S1x1x1x11.Idx => (blockCol (kernelRun0_A.sl.r (F := Ideal) c i arg2 harg2 x0) (kernelRun0_A.sl.r_1 (F := Ideal) c i arg3 harg3 x1) x2 x3 x4 x5 x6 (y 3)).kWScale) _ fun k => ?_
  refine (wAcc_apply _ k).trans ?_
  rw [scaleOf_apply]
  exact congrArg (fun e => lit (IntOp.addi e 8388608#32)) (wField_apply (D := (blockCol (kernelRun0_A.sl.r (F := Ideal) c i arg2 harg2 x0) (kernelRun0_A.sl.r_1 (F := Ideal) c i arg3 harg3 x1) x2 x3 x4 x5 x6 k)) (wk_apply c i arg2 harg2 arg3 harg3 arg4 harg4 arg5 harg5 arg6 harg6 arg7 harg7 arg8 harg8 x0 x1 x2 x3 x4 x5 x6 k))

end

end Cert.KernelIdeal.Column

end
-- ==== Proof.KernelArray.lean ====
/- What the kernel's result arrays hold: at every element, the formula of Spec.lean at the column block it lies in. -/
module

public import proofs.«01_k».proof.Proof.KernelBlock
public import proofs.«01_k».proof.Proof.Gen.KernelIdeal.Value

@[expose] public section

set_option maxRecDepth 16384

noncomputable section

namespace Cert.KernelIdeal.Column

open Idealize.ShloMosaic Idealize.ShloMosaic.TcCoe Idealize.SL.Sem Cert.KernelIdeal.Gen Cert.Adam

variable (m : (ℓ : Loc nD τ sig) → Buf (Elt Ideal) ℓ) (c : Dev nD)

/-- The kernel's arguments. -/
def args : Args where
  w := m ((c : Thread nD τ).loc main_arg0)
  g := m ((c : Thread nD τ).loc main_arg1)
  mw := m ((c : Thread nD τ).loc main_arg2)
  ms := m ((c : Thread nD τ).loc main_arg3)
  v := m ((c : Thread nD τ).loc main_arg4)
  lr := m ((c : Thread nD τ).loc main_arg5)
  st := m ((c : Thread nD τ).loc main_arg6)

/-- The host's one operation reads the words as codes. -/
theorem V_main_v0 : V m c main_v0 = (bitcastToFloat .fp8e4m3 (m ((c : Thread nD τ).loc main_arg2) : IVec S3x512x1408 8) : FVec Ideal S3x512x1408 .fp8e4m3) := rfl

/-- Point `t` works on batch `t / 4` and block of rows `t % 4`. -/
abbrev bOf (t : Fin cfg0.N) : Fin 3 := ⟨t.val / 4, by have := t.isLt; have : cfg0.N = 12 := N_0; omega⟩
abbrev iOf (t : Fin cfg0.N) : Fin 4 := ⟨t.val % 4, by omega⟩

theorem coords0 : ∀ t : Fin cfg0.N, (grid0.coords t 0).val = t.val / 4 := (by decide +kernel : ∀ t : Fin grid0.N, (grid0.coords t 0).val = t.val / 4)

/-- The block index of a window of rows. -/
theorem idx2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem idx3 : ∀ t : Fin cfg0.N, win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0)
theorem idx4 : ∀ t : Fin cfg0.N, win0_4.index t 0 = t.val / 4 ∧ win0_4.index t 1 = t.val % 4 ∧ win0_4.index t 2 = 0 :=
  (by decide +kernel : ∀ t : Fin grid0.N, win0_4.index t 0 = t.val / 4 ∧ win0_4.index t 1 = t.val % 4 ∧ win0_4.index t 2 = 0)
theorem idx5 : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)
theorem idx6 : ∀ t : Fin cfg0.N, win0_6.index t 0 = t.val / 4 ∧ win0_6.index t 1 = t.val % 4 ∧ win0_6.index t 2 = 0 :=
  (by decide +kernel : ∀ t : Fin grid0.N, win0_6.index t 0 = t.val / 4 ∧ win0_6.index t 1 = t.val % 4 ∧ win0_6.index t 2 = 0)
theorem idx7 : ∀ t : Fin cfg0.N, win0_7.index t 0 = t.val / 4 ∧ win0_7.index t 1 = t.val % 4 ∧ win0_7.index t 2 = 0 :=
  (by decide +kernel : ∀ t : Fin grid0.N, win0_7.index t 0 = t.val / 4 ∧ win0_7.index t 1 = t.val % 4 ∧ win0_7.index t 2 = 0)
theorem idx8 : ∀ t : Fin cfg0.N, win0_8.index t 0 = t.val / 4 ∧ win0_8.index t 1 = t.val % 4 ∧ win0_8.index t 2 = 0 :=
  (by decide +kernel : ∀ t : Fin grid0.N, win0_8.index t 0 = t.val / 4 ∧ win0_8.index t 1 = t.val % 4 ∧ win0_8.index t 2 = 0)
theorem idx9 : ∀ t : Fin cfg0.N, win0_9.index t 0 = t.val / 4 ∧ win0_9.index t 1 = t.val % 4 ∧ win0_9.index t 2 = 0 :=
  (by decide +kernel : ∀ t : Fin grid0.N, win0_9.index t 0 = t.val / 4 ∧ win0_9.index t 1 = t.val % 4 ∧ win0_9.index t 2 = 0)
theorem idx10 : ∀ t : Fin cfg0.N, win0_10.index t 0 = t.val / 4 ∧ win0_10.index t 1 = t.val % 4 ∧ win0_10.index t 2 = 0 :=
  (by decide +kernel : ∀ t : Fin grid0.N, win0_10.index t 0 = t.val / 4 ∧ win0_10.index t 1 = t.val % 4 ∧ win0_10.index t 2 = 0)
theorem idx11 : ∀ t : Fin cfg0.N, win0_11.index t 0 = t.val / 4 ∧ win0_11.index t 1 = t.val % 4 ∧ win0_11.index t 2 = 0 :=
  (by decide +kernel : ∀ t : Fin grid0.N, win0_11.index t 0 = t.val / 4 ∧ win0_11.index t 1 = t.val % 4 ∧ win0_11.index t 2 = 0)
theorem idx12 : ∀ t : Fin cfg0.N, win0_12.index t 0 = t.val / 4 ∧ win0_12.index t 1 = t.val % 4 ∧ win0_12.index t 2 = 0 ∧ win0_12.index t 3 = 0 :=
  (by decide +kernel : ∀ t : Fin grid0.N, win0_12.index t 0 = t.val / 4 ∧ win0_12.index t 1 = t.val % 4 ∧ win0_12.index t 2 = 0 ∧ win0_12.index t 3 = 0)
theorem idx13 : ∀ t : Fin cfg0.N, win0_13.index t 0 = t.val / 4 ∧ win0_13.index t 1 = 0 ∧ win0_13.index t 2 = t.val % 4 :=
  (by decide +kernel : ∀ t : Fin grid0.N, win0_13.index t 0 = t.val / 4 ∧ win0_13.index t 1 = 0 ∧ win0_13.index t 2 = t.val % 4)

theorem emb2 (t : Fin cfg0.N) (r : Fin 128) (j : Fin 1408) :
    ((cfg0.win 2).blk t).view.emb (ix3 0 r j : S1x128x1408.Idx) = (ix3 (bOf t) (row (iOf t) r) j : S3x512x1408.Idx) := by
  obtain ⟨h0, h1, h2⟩ := idx2 t
  funext a
  match a with
  | ⟨0, _⟩ => exact Fin.ext (by show win0_2.index t 0 * 1 + 1 * 0 = t.val / 4; omega)
  | ⟨1, _⟩ => exact Fin.ext (by show win0_2.index t 1 * 128 + 1 * r.val = 128 * (t.val % 4) + r.val; omega)
  | ⟨2, _⟩ => exact Fin.ext (by show win0_2.index t 2 * 1408 + 1 * j.val = j.val; omega)

theorem emb3 (t : Fin cfg0.N) (r : Fin 128) (j : Fin 1408) :
    ((cfg0.win 3).blk t).view.emb (ix3 0 r j : S1x128x1408.Idx) = (ix3 (bOf t) (row (iOf t) r) j : S3x512x1408.Idx) := by
  obtain ⟨h0, h1, h2⟩ := idx3 t
  funext a
  match a with
  | ⟨0, _⟩ => exact Fin.ext (by show win0_3.index t 0 * 1 + 1 * 0 = t.val / 4; omega)
  | ⟨1, _⟩ => exact Fin.ext (by show win0_3.index t 1 * 128 + 1 * r.val = 128 * (t.val % 4) + r.val; omega)
  | ⟨2, _⟩ => exact Fin.ext (by show win0_3.index t 2 * 1408 + 1 * j.val = j.val; omega)

theorem emb4 (t : Fin cfg0.N) (r : Fin 128) (j : Fin 1408) :
    ((cfg0.win 4).blk t).view.emb (ix3 0 r j : S1x128x1408.Idx) = (ix3 (bOf t) (row (iOf t) r) j : S3x512x1408.Idx) := by
  obtain ⟨h0, h1, h2⟩ := idx4 t
  funext a
  match a with
  | ⟨0, _⟩ => exact Fin.ext (by show win0_4.index t 0 * 1 + 1 * 0 = t.val / 4; omega)
  | ⟨1, _⟩ => exact Fin.ext (by show win0_4.index t 1 * 128 + 1 * r.val = 128 * (t.val % 4) + r.val; omega)
  | ⟨2, _⟩ => exact Fin.ext (by show win0_4.index t 2 * 1408 + 1 * j.val = j.val; omega)

theorem emb5 (t : Fin cfg0.N) (r : Fin 128) (j : Fin 11) :
    ((cfg0.win 5).blk t).view.emb (ix3 0 r j : S1x128x11.Idx) = (ix3 (bOf t) (row (iOf t) r) j : S3x512x11.Idx) := by
  obtain ⟨h0, h1, h2⟩ := idx5 t
  funext a
  match a with
  | ⟨0, _⟩ => exact Fin.ext (by show win0_5.index t 0 * 1 + 1 * 0 = t.val / 4; omega)
  | ⟨1, _⟩ => exact Fin.ext (by show win0_5.index t 1 * 128 + 1 * r.val = 128 * (t.val % 4) + r.val; omega)
  | ⟨2, _⟩ => exact Fin.ext (by show win0_5.index t 2 * 11 + 1 * j.val = j.val; omega)

theorem emb6 (t : Fin cfg0.N) (r : Fin 128) (j : Fin 1408) :
    ((cfg0.win 6).blk t).view.emb (ix3 0 r j : S1x128x1408.Idx) = (ix3 (bOf t) (row (iOf t) r) j : S3x512x1408.Idx) := by
  obtain ⟨h0, h1, h2⟩ := idx6 t
  funext a
  match a with
  | ⟨0, _⟩ => exact Fin.ext (by show win0_6.index t 0 * 1 + 1 * 0 = t.val / 4; omega)
  | ⟨1, _⟩ => exact Fin.ext (by show win0_6.index t 1 * 128 + 1 * r.val = 128 * (t.val % 4) + r.val; omega)
  | ⟨2, _⟩ => exact Fin.ext (by show win0_6.index t 2 * 1408 + 1 * j.val = j.val; omega)

theorem emb7 (t : Fin cfg0.N) (r : Fin 128) (j : Fin 1408) :
    ((cfg0.win 7).blk t).view.emb (ix3 0 r j : S1x128x1408.Idx) = (ix3 (bOf t) (row (iOf t) r) j : S3x512x1408.Idx) := by
  obtain ⟨h0, h1, h2⟩ := idx7 t
  funext a
  match a with
  | ⟨0, _⟩ => exact Fin.ext (by show win0_7.index t 0 * 1 + 1 * 0 = t.val / 4; omega)
  | ⟨1, _⟩ => exact Fin.ext (by show win0_7.index t 1 * 128 + 1 * r.val = 128 * (t.val % 4) + r.val; omega)
  | ⟨2, _⟩ => exact Fin.ext (by show win0_7.index t 2 * 1408 + 1 * j.val = j.val; omega)

theorem emb8 (t : Fin cfg0.N) (r : Fin 128) (j : Fin 1408) :
    ((cfg0.win 8).blk t).view.emb (ix3 0 r j : S1x128x1408.Idx) = (ix3 (bOf t) (row (iOf t) r) j : S3x512x1408.Idx) := by
  obtain ⟨h0, h1, h2⟩ := idx8 t
  funext a
  match a with
  | ⟨0, _⟩ => exact Fin.ext (by show win0_8.index t 0 * 1 + 1 * 0 = t.val / 4; omega)
  | ⟨1, _⟩ => exact Fin.ext (by show win0_8.index t 1 * 128 + 1 * r.val = 128 * (t.val % 4) + r.val; omega)
  | ⟨2, _⟩ => exact Fin.ext (by show win0_8.index t 2 * 1408 + 1 * j.val = j.val; omega)

theorem emb9 (t : Fin cfg0.N) (r : Fin 128) (j : Fin 1408) :
    ((cfg0.win 9).blk t).view.emb (ix3 0 r j : S1x128x1408.Idx) = (ix3 (bOf t) (row (iOf t) r) j : S3x512x1408.Idx) := by
  obtain ⟨h0, h1, h2⟩ := idx9 t
  funext a
  match a with
  | ⟨0, _⟩ => exact Fin.ext (by show win0_9.index t 0 * 1 + 1 * 0 = t.val / 4; omega)
  | ⟨1, _⟩ => exact Fin.ext (by show win0_9.index t 1 * 128 + 1 * r.val = 128 * (t.val % 4) + r.val; omega)
  | ⟨2, _⟩ => exact Fin.ext (by show win0_9.index t 2 * 1408 + 1 * j.val = j.val; omega)

theorem emb10 (t : Fin cfg0.N) (r : Fin 128) (j : Fin 11) :
    ((cfg0.win 10).blk t).view.emb (ix3 0 r j : S1x128x11.Idx) = (ix3 (bOf t) (row (iOf t) r) j : S3x512x11.Idx) := by
  obtain ⟨h0, h1, h2⟩ := idx10 t
  funext a
  match a with
  | ⟨0, _⟩ => exact Fin.ext (by show win0_10.index t 0 * 1 + 1 * 0 = t.val / 4; omega)
  | ⟨1, _⟩ => exact Fin.ext (by show win0_10.index t 1 * 128 + 1 * r.val = 128 * (t.val % 4) + r.val; omega)
  | ⟨2, _⟩ => exact Fin.ext (by show win0_10.index t 2 * 11 + 1 * j.val = j.val; omega)

theorem emb11 (t : Fin cfg0.N) (r : Fin 128) (j : Fin 1408) :
    ((cfg0.win 11).blk t).view.emb (ix3 0 r j : S1x128x1408.Idx) = (ix3 (bOf t) (row (iOf t) r) j : S3x512x1408.Idx) := by
  obtain ⟨h0, h1, h2⟩ := idx11 t
  funext a
  match a with
  | ⟨0, _⟩ => exact Fin.ext (by show win0_11.index t 0 * 1 + 1 * 0 = t.val / 4; omega)
  | ⟨1, _⟩ => exact Fin.ext (by show win0_11.index t 1 * 128 + 1 * r.val = 128 * (t.val % 4) + r.val; omega)
  | ⟨2, _⟩ => exact Fin.ext (by show win0_11.index t 2 * 1408 + 1 * j.val = j.val; omega)

/-- The blocks the kernel reads, -/
theorem iblk2 (t : Fin cfg0.N) (r : Fin 128) (j : Fin 1408) :
    iblk m c 2 t (ix3 0 r j : S1x128x1408.Idx) = V m c main_arg0 (ix3 (bOf t) (row (iOf t) r) j : S3x512x1408.Idx) :=
  congrArg (V m c main_arg0) (emb2 t r j)

theorem iblk3 (t : Fin cfg0.N) (r : Fin 128) (j : Fin 1408) :
    iblk m c 3 t (ix3 0 r j : S1x128x1408.Idx) = V m c main_arg1 (ix3 (bOf t) (row (iOf t) r) j : S3x512x1408.Idx) :=
  congrArg (V m c main_arg1) (emb3 t r j)

theorem iblk4 (t : Fin cfg0.N) (r : Fin 128) (j : Fin 1408) :
    iblk m c 4 t (ix3 0 r j : S1x128x1408.Idx) = V m c main_v0 (ix3 (bOf t) (row (iOf t) r) j : S3x512x1408.Idx) :=
  congrArg (V m c main_v0) (emb4 t r j)

theorem iblk5 (t : Fin cfg0.N) (r : Fin 128) (j : Fin 11) :
    iblk m c 5 t (ix3 0 r j : S1x128x11.Idx) = V m c main_arg3 (ix3 (bOf t) (row (iOf t) r) j : S3x512x11.Idx) :=
  congrArg (V m c main_arg3) (emb5 t r j)

theorem iblk6 (t : Fin cfg0.N) (r : Fin 128) (j : Fin 1408) :
    iblk m c 6 t (ix3 0 r j : S1x128x1408.Idx) = V m c main_arg4 (ix3 (bOf t) (row (iOf t) r) j : S3x512x1408.Idx) :=
  congrArg (V m c main_arg4) (emb6 t r j)

theorem iblk0 (t : Fin cfg0.N) (b : Fin 3) : iblk m c 0 t (ix1 b : S3.Idx) = V m c main_arg5 (ix1 b : S3.Idx) :=
  congrArg (V m c main_arg5) (funext fun a => by
    have h : win0_0.index t 0 = 0 := rfl
    match a with
    | ⟨0, _⟩ => exact Fin.ext (by show win0_0.index t 0 * 3 + 1 * b.val = b.val; omega))

theorem iblk1 (t : Fin cfg0.N) (b : Fin 3) : iblk m c 1 t (ix1 b : S3.Idx) = V m c main_arg6 (ix1 b : S3.Idx) :=
  congrArg (V m c main_arg6) (funext fun a => by
    have h : win0_1.index t 0 = 0 := rfl
    match a with
    | ⟨0, _⟩ => exact Fin.ext (by show win0_1.index t 0 * 3 + 1 * b.val = b.val; omega))

/-- the scalar of the point's batch, -/
theorem scalar0 (t : Fin cfg0.N) (a : Memref sig .tc .smem S3 .f32) (h : a.IsWhole) :
    kernelRun0_A.sl.r (F := Ideal) c (grid0.coords t) a h (iblk m c 0 t) = V m c main_arg5 (ix1 (bOf t) : S3.Idx) := by
  refine (h.readAt_unread _ _ _).trans ?_
  refine Eq.trans (congrArg (iblk m c 0 t) (funext fun a => ?_)) (iblk0 m c t (bOf t))
  match a with
  | ⟨0, _⟩ => exact Fin.ext (by
      show (BitVec.ofNat 32 (grid0.coords t 0).val).toNat + 1 * 0 = t.val / 4
      rw [coords0 t]
      have := t.isLt; have : cfg0.N = 12 := N_0
      simp only [BitVec.toNat_ofNat]
      omega)

/-- the scalar of the point's batch, -/
theorem scalar1 (t : Fin cfg0.N) (a : Memref sig .tc .smem S3 .i32) (h : a.IsWhole) :
    kernelRun0_A.sl.r_1 (F := Ideal) c (grid0.coords t) a h (iblk m c 1 t) = V m c main_arg6 (ix1 (bOf t) : S3.Idx) := by
  refine (h.readAt_unread _ _ _).trans ?_
  refine Eq.trans (congrArg (iblk m c 1 t) (funext fun a => ?_)) (iblk1 m c t (bOf t))
  match a with
  | ⟨0, _⟩ => exact Fin.ext (by
      show (BitVec.ofNat 32 (grid0.coords t 0).val).toNat + 1 * 0 = t.val / 4
      rw [coords0 t]
      have := t.isLt; have : cfg0.N = 12 := N_0
      simp only [BitVec.toNat_ofNat]
      omega)

/-- and the column blocks of a point. -/
theorem blockCol_eq (t : Fin cfg0.N) (a : Memref sig .tc .smem S3 .f32) (ha : a.IsWhole) (b : Memref sig .tc .smem S3 .i32) (hb : b.IsWhole) (k : Fin 11) :
    blockCol (kernelRun0_A.sl.r (F := Ideal) c (grid0.coords t) a ha (iblk m c 0 t)) (kernelRun0_A.sl.r_1 (F := Ideal) c (grid0.coords t) b hb (iblk m c 1 t))
      (iblk m c 2 t) (iblk m c 3 t) (iblk m c 4 t) (iblk m c 5 t) (iblk m c 6 t) k = (args m c).col (bOf t) (iOf t) k := by
  unfold blockCol Args.col
  rw [scalar0, scalar1]
  simp only [iblk2, iblk3, iblk4, iblk5, iblk6]
  rfl

/-- The point of a batch and a block of rows. -/
abbrev pt (b : Fin 3) (i : Fin 4) : Fin cfg0.N := ⟨4 * b.val + i.val, by have : cfg0.N = 12 := N_0; omega⟩
theorem bOf_pt (b : Fin 3) (i : Fin 4) : bOf (pt b i) = b := Fin.ext (by simp only [bOf, pt]; omega)
theorem iOf_pt (b : Fin 3) (i : Fin 4) : iOf (pt b i) = i := Fin.ext (by simp only [iOf, pt]; omega)

theorem final7 (b : Fin 3) (n : Fin 512) (j : Fin 1408) :
    (dats m 0 c).arrAt 7 cfg0.N (ix3 b n j : S3x512x1408.Idx) = ((args m c).at b n j).kW (rowOf n) (laneOf j) := by
  have h := congrFun (Value.blocks7 m c (pt b (blkOf n)) (flush0_7 _)) (ix3 0 (rowOf n) j : S1x128x1408.Idx)
  have e := emb7 (pt b (blkOf n)) (rowOf n) j
  rw [bOf_pt, iOf_pt, row_blkOf] at e
  refine (congrArg ((dats m 0 c).arrAt 7 cfg0.N) e).symm.trans (Eq.trans h ?_)
  rw [Value.flushed7_A]
  refine (out7_apply c _ _ _ _ _ _ _ _ _ _ _ _ _ _ _ _ _ _ _ _ _ _ _ _ _ _ _ _ _ _ _ _ _ _ _ _ _).trans ?_
  refine (congrArg (fun D : Col => D.kW (rowOf n) (laneOf j)) (blockCol_eq m c (pt b (blkOf n)) _ _ _ _ (colOf j))).trans ?_
  rw [bOf_pt, iOf_pt]

theorem final8 (b : Fin 3) (n : Fin 512) (j : Fin 1408) :
    (dats m 0 c).arrAt 8 cfg0.N (ix3 b n j : S3x512x1408.Idx) = ((args m c).at b n j).vN (rowOf n) (laneOf j) := by
  have h := congrFun (Value.blocks8 m c (pt b (blkOf n)) (flush0_8 _)) (ix3 0 (rowOf n) j : S1x128x1408.Idx)
  have e := emb8 (pt b (blkOf n)) (rowOf n) j
  rw [bOf_pt, iOf_pt, row_blkOf] at e
  refine (congrArg ((dats m 0 c).arrAt 8 cfg0.N) e).symm.trans (Eq.trans h ?_)
  rw [Value.flushed8_A]
  refine (out8_apply c _ _ _ _ _ _ _ _ _ _ _ _ _ _ _ _ _ _ _ _ _ _ _ _ _ _ _ _ _ _ _ _ _ _ _ _ _).trans ?_
  refine (congrArg (fun D : Col => D.vN (rowOf n) (laneOf j)) (blockCol_eq m c (pt b (blkOf n)) _ _ _ _ (colOf j))).trans ?_
  rw [bOf_pt, iOf_pt]

theorem final9 (b : Fin 3) (n : Fin 512) (j : Fin 1408) :
    (dats m 0 c).arrAt 9 cfg0.N (ix3 b n j : S3x512x1408.Idx) = ((args m c).at b n j).kMCode (rowOf n) (laneOf j) := by
  have h := congrFun (Value.blocks9 m c (pt b (blkOf n)) (flush0_9 _)) (ix3 0 (rowOf n) j : S1x128x1408.Idx)
  have e := emb9 (pt b (blkOf n)) (rowOf n) j
  rw [bOf_pt, iOf_pt, row_blkOf] at e
  refine (congrArg ((dats m 0 c).arrAt 9 cfg0.N) e).symm.trans (Eq.trans h ?_)
  rw [Value.flushed9_A]
  refine (out9_apply c _ _ _ _ _ _ _ _ _ _ _ _ _ _ _ _ _ _ _ _ _ _ _ _ _ _ _ _ _ _ _ _ _ _ _ _ _).trans ?_
  refine (congrArg (fun D : Col => D.kMCode (rowOf n) (laneOf j)) (blockCol_eq m c (pt b (blkOf n)) _ _ _ _ (colOf j))).trans ?_
  rw [bOf_pt, iOf_pt]

theorem final11 (b : Fin 3) (n : Fin 512) (j : Fin 1408) :
    (dats m 0 c).arrAt 11 cfg0.N (ix3 b n j : S3x512x1408.Idx) = ((args m c).at b n j).kWCode (rowOf n) (laneOf j) := by
  have h := congrFun (Value.blocks11 m c (pt b (blkOf n)) (flush0_11 _)) (ix3 0 (rowOf n) j : S1x128x1408.Idx)
  have e := emb11 (pt b (blkOf n)) (rowOf n) j
  rw [bOf_pt, iOf_pt, row_blkOf] at e
  refine (congrArg ((dats m 0 c).arrAt 11 cfg0.N) e).symm.trans (Eq.trans h ?_)
  rw [Value.flushed11_A]
  refine (out11_apply c _ _ _ _ _ _ _ _ _ _ _ _ _ _ _ _ _ _ _ _ _ _ _ _ _ _ _ _ _ _ _ _ _ _ _ _ _).trans ?_
  refine (congrArg (fun D : Col => D.kWCode (rowOf n) (laneOf j)) (blockCol_eq m c (pt b (blkOf n)) _ _ _ _ (colOf j))).trans ?_
  rw [bOf_pt, iOf_pt]

theorem final10 (b : Fin 3) (n : Fin 512) (k : Fin 11) :
    (dats m 0 c).arrAt 10 cfg0.N (ix3 b n k : S3x512x11.Idx) = ((args m c).col b (blkOf n) k).kMScale (rowOf n) := by
  have h := congrFun (Value.blocks10 m c (pt b (blkOf n)) (flush0_10 _)) (ix3 0 (rowOf n) k : S1x128x11.Idx)
  have e := emb10 (pt b (blkOf n)) (rowOf n) k
  rw [bOf_pt, iOf_pt, row_blkOf] at e
  refine (congrArg ((dats m 0 c).arrAt 10 cfg0.N) e).symm.trans (Eq.trans h ?_)
  rw [Value.flushed10_A]
  refine (out10_apply c _ _ _ _ _ _ _ _ _ _ _ _ _ _ _ _ _ _ _ _ _ _ _ _ _ _ _ _ _ _ _ _ _ _ _ _ _).trans ?_
  refine (congrArg (fun D : Col => D.kMScale (rowOf n)) (blockCol_eq m c (pt b (blkOf n)) _ _ _ _ k)).trans ?_
  rw [bOf_pt, iOf_pt]

theorem emb12 (t : Fin cfg0.N) (k : Fin 11) :
    ((cfg0.win 12).blk t).view.emb (ix4 0 0 0 k : S1x1x1x11.Idx) = (ix4 (bOf t) (iOf t) 0 k : S3x4x1x11.Idx) := by
  obtain ⟨h0, h1, h2, h3⟩ := idx12 t
  funext a
  match a with
  | ⟨0, _⟩ => exact Fin.ext (by show win0_12.index t 0 * 1 + 1 * 0 = t.val / 4; omega)
  | ⟨1, _⟩ => exact Fin.ext (by show win0_12.index t 1 * 1 + 1 * 0 = t.val % 4; omega)
  | ⟨2, _⟩ => exact Fin.ext (by show win0_12.index t 2 * 1 + 1 * 0 = 0; omega)
  | ⟨3, _⟩ => exact Fin.ext (by show win0_12.index t 3 * 11 + 1 * k.val = k.val; omega)

theorem final12 (b : Fin 3) (i : Fin 4) (k : Fin 11) :
    (dats m 0 c).arrAt 12 cfg0.N (ix4 b i 0 k : S3x4x1x11.Idx) = ((args m c).col b i k).kWScale := by
  have h := congrFun (Value.blocks12 m c (pt b i) (flush0_12 _)) (ix4 0 0 0 k : S1x1x1x11.Idx)
  have e := emb12 (pt b i) k
  rw [bOf_pt, iOf_pt] at e
  refine (congrArg ((dats m 0 c).arrAt 12 cfg0.N) e).symm.trans (Eq.trans h ?_)
  rw [Value.flushed12_A]
  refine (out12_apply c _ _ _ _ _ _ _ _ _ _ _ _ _ _ _ _ _ _ _ _ _ _ _ _ _ _ _ _ _ _ _ _ _ _ _ _ _).trans ?_
  refine (congrArg (fun D : Col => D.kWScale) (blockCol_eq m c (pt b i) _ _ _ _ k)).trans ?_
  rw [bOf_pt, iOf_pt]

theorem emb13 (t : Fin cfg0.N) (j : Fin 1408) (r : Fin 128) :
    ((cfg0.win 13).blk t).view.emb (ix3 0 j r : S1x1408x128.Idx) = (ix3 (bOf t) j (row (iOf t) r) : S3x1408x512.Idx) := by
  obtain ⟨h0, h1, h2⟩ := idx13 t
  funext a
  match a with
  | ⟨0, _⟩ => exact Fin.ext (by show win0_13.index t 0 * 1 + 1 * 0 = t.val / 4; omega)
  | ⟨1, _⟩ => exact Fin.ext (by show win0_13.index t 1 * 1408 + 1 * j.val = j.val; omega)
  | ⟨2, _⟩ => exact Fin.ext (by show win0_13.index t 2 * 128 + 1 * r.val = 128 * (t.val % 4) + r.val; omega)

theorem final13 (b : Fin 3) (j : Fin 1408) (n : Fin 512) :
    (dats m 0 c).arrAt 13 cfg0.N (ix3 b j n : S3x1408x512.Idx) = ((args m c).at b n j).kWCode (rowOf n) (laneOf j) := by
  have h := congrFun (Value.blocks13 m c (pt b (blkOf n)) (flush0_13 _)) (ix3 0 j (rowOf n) : S1x1408x128.Idx)
  have e := emb13 (pt b (blkOf n)) j (rowOf n)
  rw [bOf_pt, iOf_pt, row_blkOf] at e
  refine (congrArg ((dats m 0 c).arrAt 13 cfg0.N) e).symm.trans (Eq.trans h ?_)
  rw [Value.flushed13_A]
  refine (out13_apply c _ _ _ _ _ _ _ _ _ _ _ _ _ _ _ _ _ _ _ _ _ _ _ _ _ _ _ _ _ _ _ _ _ _ _ _ _).trans ?_
  refine (congrArg (fun D : Col => D.kWCode (rowOf n) (laneOf j)) (blockCol_eq m c (pt b (blkOf n)) _ _ _ _ (colOf j))).trans ?_
  rw [bOf_pt, iOf_pt]

end Cert.KernelIdeal.Column

end
-- ==== Proof.ReferenceColumn.lean ====
/- What the reference computes at an element: the formulas of Spec.lean at the column block the element lies in. -/
module

public import proofs.«01_k».proof.Proof.Args
public import proofs.«01_k».proof.Proof.Gen.ReferenceIdeal.Skeleton

@[expose] public section

set_option maxRecDepth 16384

noncomputable section

namespace Cert.ReferenceIdeal.Whole

open Idealize.ShloMosaic Idealize.SL.Sem Cert.ReferenceIdeal.Gen Cert.Adam

/-- The maximum over the rows and the lanes of a column block. -/
theorem fold_block (M : S3x4x128x11x128.Idx → EReal) (z : EReal) (b : Fin 3) (i : Fin 4) (k : Fin 11) :
    Finset.fold max z M {x | reduces_S3x4x128x11x128_S3x4x11.drop x = (ix3 b i k : S3x4x11.Idx)}
      = Finset.fold max z (fun p : Fin 128 × Fin 128 => M (ix5 b i p.1 k p.2)) Finset.univ := by
  refine Finset.fold_filter_eq_fold_of_fiber max _ (fun p : Fin 128 × Fin 128 => (ix5 b i p.1 k p.2 : S3x4x128x11x128.Idx)) ?_ ?_ z M
  · intro p q h
    exact Prod.ext (congrFun h 2) (congrFun h 4)
  · intro x
    have h0 : (reduces_S3x4x128x11x128_S3x4x11.drop x 0).val = (x 0).val := rfl
    have h1 : (reduces_S3x4x128x11x128_S3x4x11.drop x 1).val = (x 1).val := rfl
    have h2 : (reduces_S3x4x128x11x128_S3x4x11.drop x 2).val = (x 3).val := rfl
    constructor
    · intro h
      rw [h] at h0 h1 h2
      refine ⟨(x 2, x 4), ?_⟩
      funext a
      match a with
      | ⟨0, _⟩ => exact Fin.ext h0
      | ⟨1, _⟩ => exact Fin.ext h1
      | ⟨2, _⟩ => rfl
      | ⟨3, _⟩ => exact Fin.ext h2
      | ⟨4, _⟩ => rfl
    · rintro ⟨p, rfl⟩
      funext a
      match a with
      | ⟨0, _⟩ => exact Fin.ext h0
      | ⟨1, _⟩ => exact Fin.ext h1
      | ⟨2, _⟩ => exact Fin.ext h2

variable (v1 : Vec Ideal S3x512x1408 .fp8e4m3) (v5 : Vec Ideal S3x512x11 .f32) (v12 v33 : Vec Ideal S3x512x1408 .bf16)
  (v0 : Vec Ideal S3x512x1408 .f32) (v60 : Vec Ideal S3 .f32) (v63 : Vec Ideal S3 .i32)
  (b : Fin 3) (i : Fin 4) (k : Fin 11) (r c : Fin 128) (n : Fin 512) (j : Fin 1408)

/-! ### The printed functions at an index -/

/-- The first moment. -/
theorem pay6_apply : k0_pay6 (F := Ideal) v1 v5 v12 (ix3 b n j)
    = β₁ * (v1 (ix3 b n j) * v5 (ix3 b n (colOf j))) + lit 0x3DCCCCCD#32 * v12 (ix3 b n j) := by
  unfold k0_pay6 k0_pay5
  pointwise
  rfl

/-- The greatest magnitude of a row of a column block. -/
theorem rows_apply (M : FVec Ideal S3x512x1408 .f32) :
    shapeCast S3x512x11x1 (multiReduction (F := Ideal) (φ := .f32) .maximumf [3] S3x512x11
      (absf (shapeCast S3x512x11x128 M shapeCasts_S3x512x1408_S3x512x11x128)) 0xFF800000#32
      reduces_S3x512x11x128_S3x512x11 (.inl rfl) rfl) shapeCasts_S3x512x11_S3x512x11x1 (ix4 b n k 0)
      = rowMax (fun c => M (ix3 b n (lane k c))) := by
  pointwise
  refine congrArg (fun f : Fin 128 → EReal => Finset.fold max (lit 0xFF800000#32) f Finset.univ) (funext fun x => ?_)
  have hx : ∀ h, (⟨k.val * 128 + x.val, h⟩ : Fin 1408) = lane k x := fun _ => Fin.ext (by simp only [lane]; omega)
  rw [hx]
  rfl

/-- The greatest magnitude of a column block. -/
theorem block_apply (M : FVec Ideal S3x512x1408 .f32) :
    shapeCast S3x4x1x11x1 (multiReduction (F := Ideal) (φ := .f32) .maximumf [2, 4] S3x4x11
      (absf (shapeCast S3x4x128x11x128 M shapeCasts_S3x512x1408_S3x4x128x11x128)) 0xFF800000#32
      reduces_S3x4x128x11x128_S3x4x11 (.inl rfl) rfl) shapeCasts_S3x4x11_S3x4x1x11x1 (ix5 b i 0 k 0)
      = blockMax (fun r c => M (ix3 b (row i r) (lane k c))) := by
  have hc : ∀ x : Fin 128 × Fin 128, absf (F := Ideal) (φ := .f32) (shapeCast S3x4x128x11x128 M shapeCasts_S3x512x1408_S3x4x128x11x128) (ix5 b i x.1 k x.2)
      = max (M (ix3 b (row i x.1) (lane k x.2))) (-(M (ix3 b (row i x.1) (lane k x.2)))) := by
    intro x
    have hr : ∀ h, (⟨i.val * 128 + x.1.val, h⟩ : Fin 512) = row i x.1 := fun _ => Fin.ext (by simp only [row]; omega)
    have hx : ∀ h, (⟨k.val * 128 + x.2.val, h⟩ : Fin 1408) = lane k x.2 := fun _ => Fin.ext (by simp only [lane]; omega)
    pointwise
    rw [hr, hx]
    rfl
  generalize absf (F := Ideal) (φ := .f32) (shapeCast S3x4x128x11x128 M shapeCasts_S3x512x1408_S3x4x128x11x128) = N at hc ⊢
  pointwise
  refine (fold_block N _ b i k).trans ?_
  exact congrArg (fun f : Fin 128 × Fin 128 → EReal => Finset.fold max (lit 0xFF800000#32) f Finset.univ) (funext hc)

theorem exp2_apply {s : Shape} (z : FVec Ideal s .f32) (q : s.Idx) : exp2 z q = Ideal.exp2 (z q) := rfl

/-- The printed flush of small numbers, -/
theorem flush_apply {s : Shape} (y : FVec Ideal s .f32) (q : s.Idx) :
    select (cmpf .olt (mulf y (broadcast s (Scalar.ofBits (F := Ideal) .f32 0x3B124925#32))) (broadcast s (Scalar.ofBits (F := Ideal) .f32 0x00800000#32)))
      (broadcast s (Scalar.ofBits (F := Ideal) .f32 0x00000000#32)) (mulf y (broadcast s (Scalar.ofBits (F := Ideal) .f32 0x3B124925#32))) q = flushed (y q) := by
  unfold flushed part
  pointwise

/-- and the printed exponent. -/
theorem exponent_apply {s : Shape} (y : FVec Ideal s .f32) (q : s.Idx) (z : EReal) (h : y q = flushed z) :
    select (cmpf .oeq y (broadcast s (Scalar.ofBits (F := Ideal) .f32 0x00000000#32))) (broadcast s (Scalar.ofBits (F := Ideal) .f32 0x00000000#32))
      (addf (floor (divf (log y) (broadcast s (Named.named (F := Ideal) κ "log_2" 0x3F317218#32)))) (broadcast s (Scalar.ofBits (F := Ideal) .f32 0x3F800000#32))) q
      = rExp z := by
  have e : (Named.named κ "log_2" 0x3F317218#32 : Ideal .f32) = ((Real.log 2 : ℝ) : EReal) := rfl
  unfold rExp
  rw [e, ← h]
  pointwise

/-- Below the least normal number a maximum counts as zero, -/
theorem pay8_apply : k0_pay8 (F := Ideal) v1 v5 v12 (ix4 b n k 0) = flushed (rowMax (fun c => k0_pay6 v1 v5 v12 (ix3 b n (lane k c)))) := by
  unfold k0_pay8 k0_pay7
  exact (flush_apply _ _).trans (congrArg flushed (rows_apply b k n (k0_pay6 (F := Ideal) v1 v5 v12)))

/-- and this is its exponent. -/
theorem pay12_apply : k0_pay12 (k0_pay9 (F := Ideal) v1 v5 v12) (k0_pay10 v1 v5 v12) k0_pay11 (ix4 b n k 0)
    = rExp (rowMax (fun c => k0_pay6 v1 v5 v12 (ix3 b n (lane k c)))) := by
  unfold k0_pay12 k0_pay9 k0_pay10 k0_pay11
  exact exponent_apply (k0_pay8 (F := Ideal) v1 v5 v12) _ _ (pay8_apply v1 v5 v12 b k n)

theorem pay14_apply (z : IVec S3x512x11x1 1) (p q : FVec Ideal S3x512x11x1 .f32) :
    k0_pay14 (F := Ideal) z p q (ix3 b n k) = Ideal.exp2 (k0_pay12 z p q (ix4 b n k 0)) := by
  unfold k0_pay14
  pointwise
  rfl

theorem pay13_apply (M : FVec Ideal S3x512x1408 .f32) (z : IVec S3x512x11x1 1) (p q : FVec Ideal S3x512x11x1 .f32) :
    k0_pay13 (F := Ideal) (shapeCast S3x512x11x128 M shapeCasts_S3x512x1408_S3x512x11x128) z p q (ix3 b n j)
      = clip (M (ix3 b n j) * Ideal.exp2 (0 - k0_pay12 z p q (ix4 b n (colOf j) 0))) := by
  have hx : ∀ h, (⟨j.val / 128 * 128 + j.val % 128, h⟩ : Fin 1408) = j := fun _ => Fin.ext (by simp only; omega)
  unfold k0_pay13 clip
  pointwise
  try rw [hx]
  rfl

/-- The second moment. -/
theorem pay15_apply : k0_pay15 (F := Ideal) (k0_pay4 v33) (k0_pay5 v12) (ix3 b n j)
    = β₂ * v33 (ix3 b n j) + lit 0x3D4CCCCD#32 * v12 (ix3 b n j) * v12 (ix3 b n j) := by
  unfold k0_pay15 k0_pay4 k0_pay5
  pointwise
  rfl

theorem pay18_apply (x y : FVec Ideal S3x512x1408 .f32) (q : S3x512x1408.Idx) : k0_pay18 (F := Ideal) x y q = Ideal.sqrt (k0_pay15 x y q) := by
  unfold k0_pay18
  generalize k0_pay15 (F := Ideal) x y = z
  rfl

/-- The step's two factors. -/
theorem pay17_apply : k0_pay17 (F := Ideal) v60 v63 (ix3 b 0 0) = Ideal.div (v60 (ix1 b)) (1 - Ideal.pow β₁ (((v63 (ix1 b)).toInt : ℝ) : EReal)) := by
  unfold k0_pay17 k0_pay16
  pointwise
  rfl

theorem pay19_apply : k0_pay19 (F := Ideal) v63 (ix3 b 0 0) = Ideal.sqrt (1 - Ideal.pow β₂ (((v63 (ix1 b)).toInt : ℝ) : EReal)) := by
  unfold k0_pay19 k0_pay16
  pointwise
  rfl

/-- The new weights. -/
theorem pay20_apply (M S : FVec Ideal S3x512x1408 .f32) (L C : FVec Ideal S3x1x1 .f32) :
    k0_pay20 (F := Ideal) v0 M v60 L S C (ix3 b n j)
      = v0 (ix3 b n j) * (1 - v60 (ix1 b) * lit 0x3DCCCCCD#32)
        - L (ix3 b 0 0) * Ideal.div (M (ix3 b n j)) (Ideal.div (S (ix3 b n j)) (C (ix3 b 0 0)) + lit 0x322BCC77#32) := by
  unfold k0_pay20
  pointwise

theorem pay23_apply (M S : FVec Ideal S3x512x1408 .f32) (L C : FVec Ideal S3x1x1 .f32) :
    k0_pay23 (F := Ideal) v0 M v60 L S C (ix5 b i 0 k 0)
      = rExp (blockMax (fun r c => k0_pay20 (F := Ideal) v0 M v60 L S C (ix3 b (row i r) (lane k c)))) := by
  unfold k0_pay23 k0_pay22
  exact exponent_apply _ _ _ ((flush_apply _ _).trans (congrArg flushed (block_apply b i k (k0_pay20 (F := Ideal) v0 M v60 L S C))))

theorem pay2_apply (x : FVec Ideal S3x4x1x11x1 .f32) : k0_pay2 (F := Ideal) x (ix4 b i 0 k) = x (ix5 b i 0 k 0) := by
  unfold k0_pay2
  pointwise

theorem pay24_apply (M S : FVec Ideal S3x512x1408 .f32) (L C : FVec Ideal S3x1x1 .f32) (q : S3x4x1x11x1.Idx) :
    k0_pay24 (F := Ideal) v0 M v60 L S C q = Ideal.exp2 (k0_pay23 v0 M v60 L S C q) := by
  unfold k0_pay24
  exact exp2_apply _ _

theorem pay1_apply (M : FVec Ideal S3x512x1408 .f32) (p : FVec Ideal S3x4x1x11x1 .f32) :
    k0_pay1 (F := Ideal) (shapeCast S3x4x128x11x128 M shapeCasts_S3x512x1408_S3x4x128x11x128) p k0_pay25 (ix3 b n j)
      = clip (M (ix3 b n j) * Ideal.exp2 (0 - p (ix5 b (blkOf n) 0 (colOf j) 0))) := by
  have hx : ∀ h, (⟨j.val / 128 * 128 + j.val % 128, h⟩ : Fin 1408) = j := fun _ => Fin.ext (by simp only; omega)
  have hy : ∀ h, (⟨n.val / 128 * 128 + n.val % 128, h⟩ : Fin 512) = n := fun _ => Fin.ext (by simp only; omega)
  unfold k0_pay1 k0_pay25 clip
  pointwise
  try rw [hx, hy]
  rfl

theorem pay3_apply (x : FVec Ideal S3x4x128x11x128 .f32) (p q : FVec Ideal S3x4x1x11x1 .f32) :
    k0_pay3 (F := Ideal) x p q (ix3 b j n) = k0_pay1 (F := Ideal) x p q (ix3 b n j) := by
  unfold k0_pay3
  pointwise

/-! ### In terms of the column blocks -/

variable (A : Args)

/-- The codes the words denote. -/
def mcs : Vec Ideal S3x512x1408 .fp8e4m3 := fun x => Ideal.ofBits .fp8e4m3 (A.mw x)

theorem m_apply : k0_pay6 (F := Ideal) (mcs A) A.ms A.g (ix3 b (row i r) (lane k c)) = (A.col b i k).rM r c := by
  rw [pay6_apply, colOf_lane]
  rfl

theorem exp_m_apply : k0_pay12 (F := Ideal) (k0_pay9 (mcs A) A.ms A.g) (k0_pay10 (mcs A) A.ms A.g) k0_pay11 (ix4 b (row i r) k 0)
    = rExp (rowMax ((A.col b i k).rM r)) :=
  (pay12_apply _ _ _ b k (row i r)).trans (congrArg (fun f => rExp (rowMax f)) (funext fun c => m_apply b i k r c A))

theorem mScale_apply : k0_pay14 (F := Ideal) (k0_pay9 (mcs A) A.ms A.g) (k0_pay10 (mcs A) A.ms A.g) k0_pay11 (ix3 b (row i r) k)
    = (A.col b i k).rMScale r :=
  (pay14_apply b k (row i r) _ _ _).trans (congrArg Ideal.exp2 (exp_m_apply b i k r A))

theorem mCode_apply : k0_pay13 (F := Ideal) (k0_pay7 (mcs A) A.ms A.g) (k0_pay9 (mcs A) A.ms A.g) (k0_pay10 (mcs A) A.ms A.g) k0_pay11
      (ix3 b (row i r) (lane k c)) = (A.col b i k).rMCode r c := by
  refine (pay13_apply b (row i r) (lane k c) (k0_pay6 (F := Ideal) (mcs A) A.ms A.g) _ _ _).trans ?_
  rw [colOf_lane, m_apply, exp_m_apply]
  rfl

theorem v_apply : k0_pay15 (F := Ideal) (k0_pay4 A.v) (k0_pay5 A.g) (ix3 b (row i r) (lane k c)) = (A.col b i k).vN r c :=
  pay15_apply A.g A.v b (row i r) (lane k c)

/-- The new weights, as the printed functions are nested. -/
def newW : FVec Ideal S3x512x1408 .f32 :=
  k0_pay20 A.w (k0_pay6 (mcs A) A.ms A.g) A.lr (k0_pay17 A.lr A.st) (k0_pay18 (k0_pay4 A.v) (k0_pay5 A.g)) (k0_pay19 A.st)

theorem w_apply : newW A (ix3 b (row i r) (lane k c)) = (A.col b i k).rW r c := by
  refine (pay20_apply A.w A.lr b (row i r) (lane k c) _ _ _ _).trans ?_
  rw [m_apply, pay18_apply, v_apply, pay17_apply, pay19_apply]
  rfl

theorem exp_w_apply : k0_pay23 (F := Ideal) A.w (k0_pay6 (mcs A) A.ms A.g) A.lr (k0_pay17 A.lr A.st) (k0_pay18 (k0_pay4 A.v) (k0_pay5 A.g)) (k0_pay19 A.st)
      (ix5 b i 0 k 0) = rExp (blockMax (A.col b i k).rW) :=
  (pay23_apply A.w A.lr b i k _ _ _ _).trans
    (congrArg (fun f => rExp (blockMax f)) (funext fun r => funext fun c => w_apply b i k r c A))

theorem wScale_apply : k0_pay2 (F := Ideal) (k0_pay24 A.w (k0_pay6 (mcs A) A.ms A.g) A.lr (k0_pay17 A.lr A.st) (k0_pay18 (k0_pay4 A.v) (k0_pay5 A.g)) (k0_pay19 A.st))
      (ix4 b i 0 k) = (A.col b i k).rWScale :=
  (pay2_apply b i k _).trans ((pay24_apply A.w A.lr _ _ _ _ _).trans (congrArg Ideal.exp2 (exp_w_apply b i k A)))

theorem wCode_apply : k0_pay1 (F := Ideal)
      (k0_pay22 A.w (k0_pay6 (mcs A) A.ms A.g) A.lr (k0_pay17 A.lr A.st) (k0_pay18 (k0_pay4 A.v) (k0_pay5 A.g)) (k0_pay19 A.st))
      (k0_pay23 A.w (k0_pay6 (mcs A) A.ms A.g) A.lr (k0_pay17 A.lr A.st) (k0_pay18 (k0_pay4 A.v) (k0_pay5 A.g)) (k0_pay19 A.st)) k0_pay25
      (ix3 b (row i r) (lane k c)) = (A.col b i k).rWCode r c := by
  refine (pay1_apply b (row i r) (lane k c) (newW A) _).trans ?_
  rw [colOf_lane, blkOf_row, w_apply, exp_w_apply]
  rfl

end Cert.ReferenceIdeal.Whole

end
-- ==== Proof.ReferenceArray.lean ====
/- What the reference's result arrays hold: at every element, the formula of Spec.lean at the column block it lies in. -/
module

public import proofs.«01_k».proof.Proof.ReferenceColumn
public import proofs.«01_k».proof.Proof.Gen.ReferenceIdeal.Value

@[expose] public section

set_option maxRecDepth 16384

noncomputable section

namespace Cert.ReferenceIdeal.Whole

open Idealize.ShloMosaic Idealize.ShloMosaic.TcCoe Idealize.SL.Sem Cert.ReferenceIdeal.Gen Cert.Adam

variable (m : (ℓ : Loc nD τ sig) → Buf (Elt Ideal) ℓ) (c : Dev nD)

/-- The reference's arguments. -/
def args : Args where
  w := m ((c : Thread nD τ).loc main_arg0)
  g := m ((c : Thread nD τ).loc main_arg1)
  mw := m ((c : Thread nD τ).loc main_arg2)
  ms := m ((c : Thread nD τ).loc main_arg3)
  v := m ((c : Thread nD τ).loc main_arg4)
  lr := m ((c : Thread nD τ).loc main_arg5)
  st := m ((c : Thread nD τ).loc main_arg6)

/-- The host's one operation reads the words as codes. -/
theorem V_main_v0 : V m c main_v0 = (bitcastToFloat .fp8e4m3 (m ((c : Thread nD τ).loc main_arg2) : IVec S3x512x1408 8) : FVec Ideal S3x512x1408 .fp8e4m3) := rfl

/-! ### The one point's blocks are the whole arrays -/

theorem emb0 (q : S3x512x1408.Idx) : ((cfg0.win 0).blk t0_0).view.emb q = q := by
  funext a
  match a with
  | ⟨0, _⟩ =>
    have h : win0_0.index t0_0 0 = 0 := rfl
    exact Fin.ext (by show win0_0.index t0_0 0 * 3 + 1 * (q 0).val = (q 0).val; omega)
  | ⟨1, _⟩ =>
    have h : win0_0.index t0_0 1 = 0 := rfl
    exact Fin.ext (by show win0_0.index t0_0 1 * 512 + 1 * (q 1).val = (q 1).val; omega)
  | ⟨2, _⟩ =>
    have h : win0_0.index t0_0 2 = 0 := rfl
    exact Fin.ext (by show win0_0.index t0_0 2 * 1408 + 1 * (q 2).val = (q 2).val; omega)

theorem emb1 (q : S3x512x1408.Idx) : ((cfg0.win 1).blk t0_0).view.emb q = q := by
  funext a
  match a with
  | ⟨0, _⟩ =>
    have h : win0_1.index t0_0 0 = 0 := rfl
    exact Fin.ext (by show win0_1.index t0_0 0 * 3 + 1 * (q 0).val = (q 0).val; omega)
  | ⟨1, _⟩ =>
    have h : win0_1.index t0_0 1 = 0 := rfl
    exact Fin.ext (by show win0_1.index t0_0 1 * 512 + 1 * (q 1).val = (q 1).val; omega)
  | ⟨2, _⟩ =>
    have h : win0_1.index t0_0 2 = 0 := rfl
    exact Fin.ext (by show win0_1.index t0_0 2 * 1408 + 1 * (q 2).val = (q 2).val; omega)

theorem emb2 (q : S3x512x1408.Idx) : ((cfg0.win 2).blk t0_0).view.emb q = q := by
  funext a
  match a with
  | ⟨0, _⟩ =>
    have h : win0_2.index t0_0 0 = 0 := rfl
    exact Fin.ext (by show win0_2.index t0_0 0 * 3 + 1 * (q 0).val = (q 0).val; omega)
  | ⟨1, _⟩ =>
    have h : win0_2.index t0_0 1 = 0 := rfl
    exact Fin.ext (by show win0_2.index t0_0 1 * 512 + 1 * (q 1).val = (q 1).val; omega)
  | ⟨2, _⟩ =>
    have h : win0_2.index t0_0 2 = 0 := rfl
    exact Fin.ext (by show win0_2.index t0_0 2 * 1408 + 1 * (q 2).val = (q 2).val; omega)

theorem emb3 (q : S3x512x11.Idx) : ((cfg0.win 3).blk t0_0).view.emb q = q := by
  funext a
  match a with
  | ⟨0, _⟩ =>
    have h : win0_3.index t0_0 0 = 0 := rfl
    exact Fin.ext (by show win0_3.index t0_0 0 * 3 + 1 * (q 0).val = (q 0).val; omega)
  | ⟨1, _⟩ =>
    have h : win0_3.index t0_0 1 = 0 := rfl
    exact Fin.ext (by show win0_3.index t0_0 1 * 512 + 1 * (q 1).val = (q 1).val; omega)
  | ⟨2, _⟩ =>
    have h : win0_3.index t0_0 2 = 0 := rfl
    exact Fin.ext (by show win0_3.index t0_0 2 * 11 + 1 * (q 2).val = (q 2).val; omega)

theorem emb4 (q : S3x512x1408.Idx) : ((cfg0.win 4).blk t0_0).view.emb q = q := by
  funext a
  match a with
  | ⟨0, _⟩ =>
    have h : win0_4.index t0_0 0 = 0 := rfl
    exact Fin.ext (by show win0_4.index t0_0 0 * 3 + 1 * (q 0).val = (q 0).val; omega)
  | ⟨1, _⟩ =>
    have h : win0_4.index t0_0 1 = 0 := rfl
    exact Fin.ext (by show win0_4.index t0_0 1 * 512 + 1 * (q 1).val = (q 1).val; omega)
  | ⟨2, _⟩ =>
    have h : win0_4.index t0_0 2 = 0 := rfl
    exact Fin.ext (by show win0_4.index t0_0 2 * 1408 + 1 * (q 2).val = (q 2).val; omega)

theorem emb5 (q : S3.Idx) : ((cfg0.win 5).blk t0_0).view.emb q = q := by
  funext a
  match a with
  | ⟨0, _⟩ =>
    have h : win0_5.index t0_0 0 = 0 := rfl
    exact Fin.ext (by show win0_5.index t0_0 0 * 3 + 1 * (q 0).val = (q 0).val; omega)

theorem emb6 (q : S3.Idx) : ((cfg0.win 6).blk t0_0).view.emb q = q := by
  funext a
  match a with
  | ⟨0, _⟩ =>
    have h : win0_6.index t0_0 0 = 0 := rfl
    exact Fin.ext (by show win0_6.index t0_0 0 * 3 + 1 * (q 0).val = (q 0).val; omega)

theorem emb7 (q : S3x512x1408.Idx) : ((cfg0.win 7).blk t0_0).view.emb q = q := by
  funext a
  match a with
  | ⟨0, _⟩ =>
    have h : win0_7.index t0_0 0 = 0 := rfl
    exact Fin.ext (by show win0_7.index t0_0 0 * 3 + 1 * (q 0).val = (q 0).val; omega)
  | ⟨1, _⟩ =>
    have h : win0_7.index t0_0 1 = 0 := rfl
    exact Fin.ext (by show win0_7.index t0_0 1 * 512 + 1 * (q 1).val = (q 1).val; omega)
  | ⟨2, _⟩ =>
    have h : win0_7.index t0_0 2 = 0 := rfl
    exact Fin.ext (by show win0_7.index t0_0 2 * 1408 + 1 * (q 2).val = (q 2).val; omega)

theorem emb8 (q : S3x512x1408.Idx) : ((cfg0.win 8).blk t0_0).view.emb q = q := by
  funext a
  match a with
  | ⟨0, _⟩ =>
    have h : win0_8.index t0_0 0 = 0 := rfl
    exact Fin.ext (by show win0_8.index t0_0 0 * 3 + 1 * (q 0).val = (q 0).val; omega)
  | ⟨1, _⟩ =>
    have h : win0_8.index t0_0 1 = 0 := rfl
    exact Fin.ext (by show win0_8.index t0_0 1 * 512 + 1 * (q 1).val = (q 1).val; omega)
  | ⟨2, _⟩ =>
    have h : win0_8.index t0_0 2 = 0 := rfl
    exact Fin.ext (by show win0_8.index t0_0 2 * 1408 + 1 * (q 2).val = (q 2).val; omega)

theorem emb9 (q : S3x512x1408.Idx) : ((cfg0.win 9).blk t0_0).view.emb q = q := by
  funext a
  match a with
  | ⟨0, _⟩ =>
    have h : win0_9.index t0_0 0 = 0 := rfl
    exact Fin.ext (by show win0_9.index t0_0 0 * 3 + 1 * (q 0).val = (q 0).val; omega)
  | ⟨1, _⟩ =>
    have h : win0_9.index t0_0 1 = 0 := rfl
    exact Fin.ext (by show win0_9.index t0_0 1 * 512 + 1 * (q 1).val = (q 1).val; omega)
  | ⟨2, _⟩ =>
    have h : win0_9.index t0_0 2 = 0 := rfl
    exact Fin.ext (by show win0_9.index t0_0 2 * 1408 + 1 * (q 2).val = (q 2).val; omega)

theorem emb10 (q : S3x512x11.Idx) : ((cfg0.win 10).blk t0_0).view.emb q = q := by
  funext a
  match a with
  | ⟨0, _⟩ =>
    have h : win0_10.index t0_0 0 = 0 := rfl
    exact Fin.ext (by show win0_10.index t0_0 0 * 3 + 1 * (q 0).val = (q 0).val; omega)
  | ⟨1, _⟩ =>
    have h : win0_10.index t0_0 1 = 0 := rfl
    exact Fin.ext (by show win0_10.index t0_0 1 * 512 + 1 * (q 1).val = (q 1).val; omega)
  | ⟨2, _⟩ =>
    have h : win0_10.index t0_0 2 = 0 := rfl
    exact Fin.ext (by show win0_10.index t0_0 2 * 11 + 1 * (q 2).val = (q 2).val; omega)

theorem emb11 (q : S3x512x1408.Idx) : ((cfg0.win 11).blk t0_0).view.emb q = q := by
  funext a
  match a with
  | ⟨0, _⟩ =>
    have h : win0_11.index t0_0 0 = 0 := rfl
    exact Fin.ext (by show win0_11.index t0_0 0 * 3 + 1 * (q 0).val = (q 0).val; omega)
  | ⟨1, _⟩ =>
    have h : win0_11.index t0_0 1 = 0 := rfl
    exact Fin.ext (by show win0_11.index t0_0 1 * 512 + 1 * (q 1).val = (q 1).val; omega)
  | ⟨2, _⟩ =>
    have h : win0_11.index t0_0 2 = 0 := rfl
    exact Fin.ext (by show win0_11.index t0_0 2 * 1408 + 1 * (q 2).val = (q 2).val; omega)

theorem emb12 (q : S3x4x1x11.Idx) : ((cfg0.win 12).blk t0_0).view.emb q = q := by
  funext a
  match a with
  | ⟨0, _⟩ =>
    have h : win0_12.index t0_0 0 = 0 := rfl
    exact Fin.ext (by show win0_12.index t0_0 0 * 3 + 1 * (q 0).val = (q 0).val; omega)
  | ⟨1, _⟩ =>
    have h : win0_12.index t0_0 1 = 0 := rfl
    exact Fin.ext (by show win0_12.index t0_0 1 * 4 + 1 * (q 1).val = (q 1).val; omega)
  | ⟨2, _⟩ =>
    have h : win0_12.index t0_0 2 = 0 := rfl
    exact Fin.ext (by show win0_12.index t0_0 2 * 1 + 1 * (q 2).val = (q 2).val; omega)
  | ⟨3, _⟩ =>
    have h : win0_12.index t0_0 3 = 0 := rfl
    exact Fin.ext (by show win0_12.index t0_0 3 * 11 + 1 * (q 3).val = (q 3).val; omega)

theorem emb13 (q : S3x1408x512.Idx) : ((cfg0.win 13).blk t0_0).view.emb q = q := by
  funext a
  match a with
  | ⟨0, _⟩ =>
    have h : win0_13.index t0_0 0 = 0 := rfl
    exact Fin.ext (by show win0_13.index t0_0 0 * 3 + 1 * (q 0).val = (q 0).val; omega)
  | ⟨1, _⟩ =>
    have h : win0_13.index t0_0 1 = 0 := rfl
    exact Fin.ext (by show win0_13.index t0_0 1 * 1408 + 1 * (q 1).val = (q 1).val; omega)
  | ⟨2, _⟩ =>
    have h : win0_13.index t0_0 2 = 0 := rfl
    exact Fin.ext (by show win0_13.index t0_0 2 * 512 + 1 * (q 2).val = (q 2).val; omega)

theorem iblk0 : iblk m c 0 t0_0 = (args m c).w :=
  funext fun q => congrArg (V m c main_arg0) (emb0 q)
theorem iblk1 : iblk m c 1 t0_0 = (args m c).g :=
  funext fun q => congrArg (V m c main_arg1) (emb1 q)
theorem iblk2 : iblk m c 2 t0_0 = mcs (args m c) :=
  funext fun q => congrArg (V m c main_v0) (emb2 q)
theorem iblk3 : iblk m c 3 t0_0 = (args m c).ms :=
  funext fun q => congrArg (V m c main_arg3) (emb3 q)
theorem iblk4 : iblk m c 4 t0_0 = (args m c).v :=
  funext fun q => congrArg (V m c main_arg4) (emb4 q)
theorem iblk5 : iblk m c 5 t0_0 = (args m c).lr :=
  funext fun q => congrArg (V m c main_arg5) (emb5 q)
theorem iblk6 : iblk m c 6 t0_0 = (args m c).st :=
  funext fun q => congrArg (V m c main_arg6) (emb6 q)

/-! ### Reading and storing whole arrays -/

theorem hz1 : (![0] : Fin 1 → Nat) = fun _ => 0 := by decide
theorem hz3 : (![0, 0, 0] : Fin 3 → Nat) = fun _ => 0 := by decide
theorem hz4 : (![0, 0, 0, 0] : Fin 4 → Nat) = fun _ => 0 := by decide

theorem ld0 {φ : EltTy} (X : Vec Ideal S3x512x1408 φ) : View.ld X r0_0 = X := View.ld_unit_zero (S := S3x512x1408) hz3 _ X
theorem ld1 {φ : EltTy} (X : Vec Ideal S3x512x11 φ) : View.ld X r0_1 = X := View.ld_unit_zero (S := S3x512x11) hz3 _ X
theorem ld2 {φ : EltTy} (X : Vec Ideal S3 φ) : View.ld X r0_2 = X := View.ld_unit_zero (S := S3) hz1 _ X

variable (A : Args)

theorem out7_eq : out0_7 (F := Ideal) A.w A.g (mcs A) A.ms A.v A.lr A.st
    = newW A := by
  unfold out0_7
  refine (View.canon_unit_zero (S := S3x512x1408) hz3 _ _).trans ?_
  unfold k0_pay28 k0_pay32 k0_pay33 k0_pay34 k0_pay26 k0_pay27 newW
  simp only [ld0, ld1, ld2]

theorem out8_eq : out0_8 (F := Ideal) A.w A.g (mcs A) A.ms A.v A.lr A.st
    = k0_pay21 (k0_pay15 (k0_pay4 A.v) (k0_pay5 A.g)) := by
  unfold out0_8
  refine (View.canon_unit_zero (S := S3x512x1408) hz3 _ _).trans ?_
  unfold k0_pay26 k0_pay27
  simp only [ld0, ld1, ld2]

theorem out9_eq : out0_9 (F := Ideal) A.w A.g (mcs A) A.ms A.v A.lr A.st
    = k0_pay13 (k0_pay7 (mcs A) A.ms A.g) (k0_pay9 (mcs A) A.ms A.g) (k0_pay10 (mcs A) A.ms A.g) k0_pay11 := by
  unfold out0_9
  refine (View.canon_unit_zero (S := S3x512x1408) hz3 _ _).trans ?_
  unfold k0_pay29 k0_pay30 k0_pay31
  simp only [ld0, ld1, ld2]

theorem out10_eq : out0_10 (F := Ideal) A.w A.g (mcs A) A.ms A.v A.lr A.st
    = k0_pay14 (k0_pay9 (mcs A) A.ms A.g) (k0_pay10 (mcs A) A.ms A.g) k0_pay11 := by
  unfold out0_10
  refine (View.canon_unit_zero (S := S3x512x11) hz3 _ _).trans ?_
  unfold k0_pay29 k0_pay30 k0_pay31
  simp only [ld0, ld1, ld2]

theorem out11_eq : out0_11 (F := Ideal) A.w A.g (mcs A) A.ms A.v A.lr A.st
    = k0_pay1 (k0_pay22 A.w (k0_pay6 (mcs A) A.ms A.g) A.lr (k0_pay17 A.lr A.st) (k0_pay18 (k0_pay4 A.v) (k0_pay5 A.g)) (k0_pay19 A.st)) (k0_pay23 A.w (k0_pay6 (mcs A) A.ms A.g) A.lr (k0_pay17 A.lr A.st) (k0_pay18 (k0_pay4 A.v) (k0_pay5 A.g)) (k0_pay19 A.st)) k0_pay25 := by
  unfold out0_11
  refine (View.canon_unit_zero (S := S3x512x1408) hz3 _ _).trans ?_
  unfold k0_pay35 k0_pay36 k0_pay37 k0_pay28 k0_pay32 k0_pay33 k0_pay34 k0_pay26 k0_pay27
  simp only [ld0, ld1, ld2]

theorem out12_eq : out0_12 (F := Ideal) A.w A.g (mcs A) A.ms A.v A.lr A.st
    = k0_pay2 (k0_pay24 A.w (k0_pay6 (mcs A) A.ms A.g) A.lr (k0_pay17 A.lr A.st) (k0_pay18 (k0_pay4 A.v) (k0_pay5 A.g)) (k0_pay19 A.st)) := by
  unfold out0_12
  refine (View.canon_unit_zero (S := S3x4x1x11) hz4 _ _).trans ?_
  unfold k0_pay28 k0_pay32 k0_pay33 k0_pay34 k0_pay26 k0_pay27
  simp only [ld0, ld1, ld2]

theorem out13_eq : out0_13 (F := Ideal) A.w A.g (mcs A) A.ms A.v A.lr A.st
    = k0_pay3 (k0_pay22 A.w (k0_pay6 (mcs A) A.ms A.g) A.lr (k0_pay17 A.lr A.st) (k0_pay18 (k0_pay4 A.v) (k0_pay5 A.g)) (k0_pay19 A.st)) (k0_pay23 A.w (k0_pay6 (mcs A) A.ms A.g) A.lr (k0_pay17 A.lr A.st) (k0_pay18 (k0_pay4 A.v) (k0_pay5 A.g)) (k0_pay19 A.st)) k0_pay25 := by
  unfold out0_13
  refine (View.canon_unit_zero (S := S3x1408x512) hz3 _ _).trans ?_
  unfold k0_pay35 k0_pay36 k0_pay37 k0_pay28 k0_pay32 k0_pay33 k0_pay34 k0_pay26 k0_pay27
  simp only [ld0, ld1, ld2]

/-! ### The arrays after the run -/

theorem final7 (b : Fin 3) (n : Fin 512) (j : Fin 1408) :
    (dats m 0 c).arrAt 7 cfg0.N (ix3 b n j : S3x512x1408.Idx) = ((args m c).at b n j).rW (rowOf n) (laneOf j) := by
  have h := congrFun (Value.blocks7 m c t0_0 (flush0_7 _)) (ix3 b n j : S3x512x1408.Idx)
  refine (congrArg ((dats m 0 c).arrAt 7 cfg0.N) (emb7 _)).symm.trans (Eq.trans h ?_)
  rw [Value.flushed7]
  show out0_7 (F := Ideal) (iblk m c 0 t0_0) (iblk m c 1 t0_0) (iblk m c 2 t0_0) (iblk m c 3 t0_0) (iblk m c 4 t0_0) (iblk m c 5 t0_0) (iblk m c 6 t0_0) (ix3 b n j) = _
  rw [iblk0, iblk1, iblk2, iblk3, iblk4, iblk5, iblk6, out7_eq]
  obtain ⟨i, r, rfl⟩ : ∃ i r, n = row i r := ⟨blkOf n, rowOf n, (row_blkOf n).symm⟩
  obtain ⟨k, l, rfl⟩ : ∃ k l, j = lane k l := ⟨colOf j, laneOf j, (lane_colOf j).symm⟩
  rw [Args.at_row_lane, rowOf_row, laneOf_lane]
  exact w_apply b i k r l (args m c)

theorem final8 (b : Fin 3) (n : Fin 512) (j : Fin 1408) :
    (dats m 0 c).arrAt 8 cfg0.N (ix3 b n j : S3x512x1408.Idx) = ((args m c).at b n j).vN (rowOf n) (laneOf j) := by
  have h := congrFun (Value.blocks8 m c t0_0 (flush0_8 _)) (ix3 b n j : S3x512x1408.Idx)
  refine (congrArg ((dats m 0 c).arrAt 8 cfg0.N) (emb8 _)).symm.trans (Eq.trans h ?_)
  rw [Value.flushed8]
  show out0_8 (F := Ideal) (iblk m c 0 t0_0) (iblk m c 1 t0_0) (iblk m c 2 t0_0) (iblk m c 3 t0_0) (iblk m c 4 t0_0) (iblk m c 5 t0_0) (iblk m c 6 t0_0) (ix3 b n j) = _
  rw [iblk0, iblk1, iblk2, iblk3, iblk4, iblk5, iblk6, out8_eq]
  obtain ⟨i, r, rfl⟩ : ∃ i r, n = row i r := ⟨blkOf n, rowOf n, (row_blkOf n).symm⟩
  obtain ⟨k, l, rfl⟩ : ∃ k l, j = lane k l := ⟨colOf j, laneOf j, (lane_colOf j).symm⟩
  rw [Args.at_row_lane, rowOf_row, laneOf_lane]
  exact v_apply b i k r l (args m c)

theorem final9 (b : Fin 3) (n : Fin 512) (j : Fin 1408) :
    (dats m 0 c).arrAt 9 cfg0.N (ix3 b n j : S3x512x1408.Idx) = ((args m c).at b n j).rMCode (rowOf n) (laneOf j) := by
  have h := congrFun (Value.blocks9 m c t0_0 (flush0_9 _)) (ix3 b n j : S3x512x1408.Idx)
  refine (congrArg ((dats m 0 c).arrAt 9 cfg0.N) (emb9 _)).symm.trans (Eq.trans h ?_)
  rw [Value.flushed9]
  show out0_9 (F := Ideal) (iblk m c 0 t0_0) (iblk m c 1 t0_0) (iblk m c 2 t0_0) (iblk m c 3 t0_0) (iblk m c 4 t0_0) (iblk m c 5 t0_0) (iblk m c 6 t0_0) (ix3 b n j) = _
  rw [iblk0, iblk1, iblk2, iblk3, iblk4, iblk5, iblk6, out9_eq]
  obtain ⟨i, r, rfl⟩ : ∃ i r, n = row i r := ⟨blkOf n, rowOf n, (row_blkOf n).symm⟩
  obtain ⟨k, l, rfl⟩ : ∃ k l, j = lane k l := ⟨colOf j, laneOf j, (lane_colOf j).symm⟩
  rw [Args.at_row_lane, rowOf_row, laneOf_lane]
  exact mCode_apply b i k r l (args m c)

theorem final11 (b : Fin 3) (n : Fin 512) (j : Fin 1408) :
    (dats m 0 c).arrAt 11 cfg0.N (ix3 b n j : S3x512x1408.Idx) = ((args m c).at b n j).rWCode (rowOf n) (laneOf j) := by
  have h := congrFun (Value.blocks11 m c t0_0 (flush0_11 _)) (ix3 b n j : S3x512x1408.Idx)
  refine (congrArg ((dats m 0 c).arrAt 11 cfg0.N) (emb11 _)).symm.trans (Eq.trans h ?_)
  rw [Value.flushed11]
  show out0_11 (F := Ideal) (iblk m c 0 t0_0) (iblk m c 1 t0_0) (iblk m c 2 t0_0) (iblk m c 3 t0_0) (iblk m c 4 t0_0) (iblk m c 5 t0_0) (iblk m c 6 t0_0) (ix3 b n j) = _
  rw [iblk0, iblk1, iblk2, iblk3, iblk4, iblk5, iblk6, out11_eq]
  obtain ⟨i, r, rfl⟩ : ∃ i r, n = row i r := ⟨blkOf n, rowOf n, (row_blkOf n).symm⟩
  obtain ⟨k, l, rfl⟩ : ∃ k l, j = lane k l := ⟨colOf j, laneOf j, (lane_colOf j).symm⟩
  rw [Args.at_row_lane, rowOf_row, laneOf_lane]
  exact wCode_apply b i k r l (args m c)

theorem final10 (b : Fin 3) (n : Fin 512) (k : Fin 11) :
    (dats m 0 c).arrAt 10 cfg0.N (ix3 b n k : S3x512x11.Idx) = ((args m c).col b (blkOf n) k).rMScale (rowOf n) := by
  have h := congrFun (Value.blocks10 m c t0_0 (flush0_10 _)) (ix3 b n k : S3x512x11.Idx)
  refine (congrArg ((dats m 0 c).arrAt 10 cfg0.N) (emb10 _)).symm.trans (Eq.trans h ?_)
  rw [Value.flushed10]
  show out0_10 (F := Ideal) (iblk m c 0 t0_0) (iblk m c 1 t0_0) (iblk m c 2 t0_0) (iblk m c 3 t0_0) (iblk m c 4 t0_0) (iblk m c 5 t0_0) (iblk m c 6 t0_0) (ix3 b n k) = _
  rw [iblk0, iblk1, iblk2, iblk3, iblk4, iblk5, iblk6, out10_eq]
  obtain ⟨i, r, rfl⟩ : ∃ i r, n = row i r := ⟨blkOf n, rowOf n, (row_blkOf n).symm⟩
  rw [blkOf_row, rowOf_row]
  exact mScale_apply b i k r (args m c)

theorem final12 (b : Fin 3) (i : Fin 4) (k : Fin 11) :
    (dats m 0 c).arrAt 12 cfg0.N (ix4 b i 0 k : S3x4x1x11.Idx) = ((args m c).col b i k).rWScale := by
  have h := congrFun (Value.blocks12 m c t0_0 (flush0_12 _)) (ix4 b i 0 k : S3x4x1x11.Idx)
  refine (congrArg ((dats m 0 c).arrAt 12 cfg0.N) (emb12 _)).symm.trans (Eq.trans h ?_)
  rw [Value.flushed12]
  show out0_12 (F := Ideal) (iblk m c 0 t0_0) (iblk m c 1 t0_0) (iblk m c 2 t0_0) (iblk m c 3 t0_0) (iblk m c 4 t0_0) (iblk m c 5 t0_0) (iblk m c 6 t0_0) (ix4 b i 0 k) = _
  rw [iblk0, iblk1, iblk2, iblk3, iblk4, iblk5, iblk6, out12_eq]
  exact wScale_apply b i k (args m c)

theorem final13 (b : Fin 3) (j : Fin 1408) (n : Fin 512) :
    (dats m 0 c).arrAt 13 cfg0.N (ix3 b j n : S3x1408x512.Idx) = ((args m c).at b n j).rWCode (rowOf n) (laneOf j) := by
  have h := congrFun (Value.blocks13 m c t0_0 (flush0_13 _)) (ix3 b j n : S3x1408x512.Idx)
  refine (congrArg ((dats m 0 c).arrAt 13 cfg0.N) (emb13 _)).symm.trans (Eq.trans h ?_)
  rw [Value.flushed13]
  show out0_13 (F := Ideal) (iblk m c 0 t0_0) (iblk m c 1 t0_0) (iblk m c 2 t0_0) (iblk m c 3 t0_0) (iblk m c 4 t0_0) (iblk m c 5 t0_0) (iblk m c 6 t0_0) (ix3 b j n) = _
  rw [iblk0, iblk1, iblk2, iblk3, iblk4, iblk5, iblk6, out13_eq]
  obtain ⟨i, r, rfl⟩ : ∃ i r, n = row i r := ⟨blkOf n, rowOf n, (row_blkOf n).symm⟩
  obtain ⟨k, l, rfl⟩ : ∃ k l, j = lane k l := ⟨colOf j, laneOf j, (lane_colOf j).symm⟩
  rw [Args.at_row_lane, rowOf_row, laneOf_lane]
  exact (pay3_apply b (row i r) (lane k l) _ _ _).trans (wCode_apply b i k r l (args m c))

end Cert.ReferenceIdeal.Whole

end
-- ==== Proof.Exponent.lean ====
/- The kernel's bisection of the exponent field is the reference's `floor (log2 a) + 1`. -/
module

public import proofs.«01_k».proof.Proof.Spec

@[expose] public section

noncomputable section

namespace Cert.Adam

open Idealize.ShloMosaic

/-- The word with exponent field `E` and nothing else. -/
abbrev wordE (E : ℕ) : BitVec 32 := BitVec.ofNat 32 (E * 8388608)

theorem toNat_wordE {E : ℕ} (h : E < 256) : (wordE E).toNat = E * 8388608 := by
  rw [BitVec.toNat_ofNat]
  exact Nat.mod_eq_of_lt (lt_of_lt_of_le (Nat.mul_lt_mul_of_pos_right h (by norm_num)) (by norm_num))

theorem ex_wordE {E : ℕ} (h : E < 256) : ((wordE E).extractLsb' 23 8).toNat = E := by
  rw [BitVec.extractLsb'_toNat, toNat_wordE h, Nat.shiftRight_eq_div_pow, show (2 : ℕ) ^ 23 = 8388608 from by norm_num,
    Nat.mul_div_cancel _ (by norm_num)]
  exact Nat.mod_eq_of_lt h
theorem fr_wordE {E : ℕ} (h : E < 256) : ((wordE E).extractLsb' 0 23).toNat = 0 := by
  rw [BitVec.extractLsb'_toNat, toNat_wordE h, Nat.shiftRight_zero, show (2 : ℕ) ^ 23 = 8388608 from by norm_num]
  exact Nat.mul_mod_left _ _
theorem sg_wordE {E : ℕ} (h : E < 256) : ((wordE E).extractLsb' 31 1 == 1#1) = false := by
  have e : (wordE E).extractLsb' 31 1 = 0#1 := by
    apply BitVec.eq_of_toNat_eq
    rw [BitVec.extractLsb'_toNat, toNat_wordE h, Nat.shiftRight_eq_div_pow, Nat.div_eq_of_lt]
    · rfl
    · exact lt_of_lt_of_le (Nat.mul_lt_mul_of_pos_right h (by norm_num)) (by norm_num)
  rw [e]
  rfl

theorem lit_eq (b : BitVec 32) : lit b = Ideal.ieee 8 23 b := rfl

/-- Between the extreme fields it is a power of two. -/
theorem lit_wordE {E : ℕ} (h0 : 0 < E) (h : E < 255) : lit (wordE E) = (((2 : ℝ) ^ ((E : ℤ) - 127) : ℝ) : EReal) := by
  rw [lit_eq]
  unfold Ideal.ieee
  simp only [Nat.reduceAdd, ex_wordE (E := E) (by omega), fr_wordE (E := E) (by omega), sg_wordE (E := E) (by omega)]
  rw [if_neg (by omega), if_neg (by omega)]
  congr 1
  have e : ((E : ℤ) - 127) = ((E : ℤ) - (2 ^ (8 - 1) - 1) - (23 : ℕ)) + 23 := by norm_num
  rw [e, zpow_add₀ (by norm_num)]
  norm_num
  ring

theorem lit_wordE_zero : lit (wordE 0) = 0 := by
  rw [lit_eq]
  unfold Ideal.ieee
  simp only [Nat.reduceAdd, ex_wordE (E := 0) (by omega), fr_wordE (E := 0) (by omega), sg_wordE (E := 0) (by omega)]
  rw [if_neg (by norm_num), if_pos trivial]
  norm_num

theorem lit_wordE_top : lit (wordE 255) = ⊤ := by
  rw [lit_eq]
  unfold Ideal.ieee
  simp only [Nat.reduceAdd, ex_wordE (E := 255) (by omega), fr_wordE (E := 255) (by omega), sg_wordE (E := 255) (by omega)]
  rw [if_pos (by norm_num), if_pos trivial, if_neg (by decide)]

/-! ### The search -/

theorem select_olt {α : Type} (a b : EReal) (x y : α) :
    Scalar.select (FloatOps.cmpf (F := Ideal) (φ := .f32) .olt a b) x y = if a < b then x else y := by
  pointwise

theorem step_eq (K T : ℕ) (a : EReal) :
    stepS (wordE K) a (wordE T) = wordE (if a < lit (wordE (T + K)) then T else T + K) := by
  have e : IntOp.addi (wordE T) (wordE K) = wordE (T + K) := by
    show BitVec.ofNat 32 (T * 8388608) + BitVec.ofNat 32 (K * 8388608) = _
    rw [← BitVec.ofNat_add, ← Nat.add_mul]
  unfold stepS
  rw [e, select_olt]
  split_ifs <;> rfl

/-- The field found lies within `W` of `T`. -/
def Within (a : EReal) (T W : ℕ) : Prop := lit (wordE T) ≤ a ∧ T + W ≤ 256 ∧ (T + W < 256 → a < lit (wordE (T + W)))

theorem Within.step {a : EReal} {T K : ℕ} (h : Within a T (K + K)) : ∃ T', stepS (wordE K) a (wordE T) = wordE T' ∧ Within a T' K := by
  obtain ⟨h0, h1, h2⟩ := h
  refine ⟨_, step_eq K T a, ?_⟩
  split_ifs with hlt
  · exact ⟨h0, by omega, fun _ => hlt⟩
  · exact ⟨not_lt.mp hlt, by omega, fun h => by rw [Nat.add_assoc] at h ⊢; exact h2 h⟩

/-- The search finds the greatest field whose power of two is at most `a`. -/
theorem search_spec {a : EReal} (h : 0 ≤ a) : ∃ T, searchS a = wordE T ∧ Within a T 1 := by
  have h0 : Within a 0 (128 + 128) := ⟨lit_wordE_zero ▸ h, by omega, by omega⟩
  obtain ⟨t1, e1, h1⟩ := h0.step
  obtain ⟨t2, e2, h2⟩ := Within.step (K := 64) h1
  obtain ⟨t3, e3, h3⟩ := Within.step (K := 32) h2
  obtain ⟨t4, e4, h4⟩ := Within.step (K := 16) h3
  obtain ⟨t5, e5, h5⟩ := Within.step (K := 8) h4
  obtain ⟨t6, e6, h6⟩ := Within.step (K := 4) h5
  obtain ⟨t7, e7, h7⟩ := Within.step (K := 2) h6
  obtain ⟨t8, e8, h8⟩ := Within.step (K := 1) h7
  refine ⟨t8, ?_, h8⟩
  have k0 : (0#32 : BitVec 32) = wordE 0 := rfl
  have k1 : (8388608#32 : BitVec 32) = wordE 1 := rfl
  have k2 : (16777216#32 : BitVec 32) = wordE 2 := rfl
  have k4 : (33554432#32 : BitVec 32) = wordE 4 := rfl
  have k8 : (67108864#32 : BitVec 32) = wordE 8 := rfl
  have k16 : (134217728#32 : BitVec 32) = wordE 16 := rfl
  have k32 : (268435456#32 : BitVec 32) = wordE 32 := rfl
  have k64 : (536870912#32 : BitVec 32) = wordE 64 := rfl
  have k128 : (1073741824#32 : BitVec 32) = wordE 128 := rfl
  unfold searchS
  rw [k0, k1, k2, k4, k8, k16, k32, k64, k128, e1, e2, e3, e4, e5, e6, e7, e8]

/-! ### The two spellings of scale and inverse -/

theorem wordE_eq_zero {T : ℕ} (h : T < 256) : wordE T = 0#32 ↔ T = 0 := by
  constructor
  · intro e
    have := congrArg BitVec.toNat e
    simp only [wordE, BitVec.toNat_ofNat] at this
    omega
  · rintro rfl
    rfl

theorem select_eq {α : Type} (x y : BitVec 32) (a b : α) : Scalar.select (IntOp.cmpi .eq x y) a b = if x = y then a else b := by
  unfold Scalar.select IntOp.cmpi
  by_cases h : x = y
  · subst h
    simp
  · have e : (x == y) = false := beq_eq_false_iff_ne.mpr h
    simp [h, e]

theorem field_eq {a : EReal} {T : ℕ} (h : T < 256) (e : searchS a = wordE T) : fieldS a = wordE (if T = 0 then 126 else T) := by
  have k : (1056964608#32 : BitVec 32) = wordE 126 := rfl
  unfold fieldS
  rw [e, select_eq, k]
  by_cases hT : T = 0
  · rw [if_pos ((wordE_eq_zero h).mpr hT), if_pos hT]
  · rw [if_neg (fun x => hT ((wordE_eq_zero h).mp x)), if_neg hT]

theorem addi_wordE (T : ℕ) : IntOp.addi (wordE T) 8388608#32 = wordE (T + 1) := by
  show BitVec.ofNat 32 (T * 8388608) + BitVec.ofNat 32 (1 * 8388608) = _
  rw [← BitVec.ofNat_add, ← Nat.add_mul]

theorem subi_wordE {T : ℕ} (h : T ≤ 253) : IntOp.subi 2122317824#32 (wordE T) = wordE (253 - T) := by
  show BitVec.ofNat 32 (253 * 8388608) - BitVec.ofNat 32 (T * 8388608) = _
  have e : 253 * 8388608 = (253 - T) * 8388608 + T * 8388608 := by rw [← Nat.add_mul, Nat.sub_add_cancel h]
  rw [e, BitVec.ofNat_add, BitVec.add_sub_cancel]

/-- The floor of the binary logarithm, between two powers of two. -/
theorem floor_log {x : ℝ} {n : ℤ} (h1 : (2 : ℝ) ^ n ≤ x) (h2 : x < (2 : ℝ) ^ (n + 1)) : ⌊Real.log x / Real.log 2⌋ = n := by
  have hl : 0 < Real.log 2 := Real.log_pos (by norm_num)
  have hx : 0 < x := lt_of_lt_of_le (zpow_pos (by norm_num) n) h1
  rw [Int.floor_eq_iff]
  constructor
  · rw [le_div_iff₀ hl, ← Real.log_zpow]
    exact Real.log_le_log (zpow_pos (by norm_num) n) h1
  · rw [div_lt_iff₀ hl]
    have e : ((n : ℝ) + 1) * Real.log 2 = Real.log ((2 : ℝ) ^ (n + 1)) := by rw [Real.log_zpow]; push_cast; ring
    rw [e]
    exact Real.log_lt_log hx h2

theorem exp2_int (n : ℤ) : Ideal.exp2 (((n : ℝ) : ℝ) : EReal) = (((2 : ℝ) ^ n : ℝ) : EReal) := by
  show ((Real.rpow 2 (n : ℝ) : ℝ) : EReal) = _
  congr 1
  exact Real.rpow_intCast 2 n

/-- What both spellings come to: a power of two and its inverse. -/
theorem exponent_spec {a : EReal} {x : ℝ} (hx : part a = (x : EReal)) (h0 : 0 ≤ x) (h1 : x < (2 : ℝ) ^ (126 : ℤ)) :
    kScale a = rScale a ∧ kInv a = rInv a := by
  obtain ⟨T, e, hT⟩ := search_spec (a := part a) (by rw [hx]; exact_mod_cast h0)
  obtain ⟨hl, hT256, hu⟩ := hT
  have hm : max (part a) (-(part a)) = part a := by
    rw [hx]
    refine max_eq_left ?_
    rw [← EReal.coe_neg]
    exact_mod_cast (by linarith : -x ≤ x)
  have hT255 : T ≠ 255 := by
    rintro rfl
    rw [lit_wordE_top, hx] at hl
    exact absurd hl (by simp)
  have hu' := hu (by omega)
  have t1 : lit 0x00800000#32 = lit (wordE 1) := rfl
  unfold kScale kInv rScale rInv
  rw [hm, field_eq (by omega) e]
  by_cases hT0 : T = 0
  · subst hT0
    have hf : flushed a = 0 := by
      unfold flushed
      rw [t1, if_pos hu']
    have hr : rExp a = ((((0 : ℤ) : ℝ) : ℝ) : EReal) := by
      unfold rExp
      rw [if_pos hf]
      norm_num
    have hr' : (0 : EReal) - rExp a = ((((0 : ℤ) : ℝ) : ℝ) : EReal) := by
      rw [hr]
      norm_num
    rw [if_pos rfl, addi_wordE, subi_wordE (by omega), hr', hr, exp2_int, lit_wordE (by omega) (by omega)]
    norm_num
  · have hTx : (2 : ℝ) ^ ((T : ℤ) - 127) ≤ x := by
      rw [lit_wordE (by omega) (by omega), hx] at hl
      exact_mod_cast hl
    have hT252 : T ≤ 252 := by
      by_contra hc
      have : (2 : ℝ) ^ (126 : ℤ) ≤ (2 : ℝ) ^ ((T : ℤ) - 127) := zpow_le_zpow_right₀ (by norm_num) (by omega)
      linarith
    have hxu : x < (2 : ℝ) ^ (((T : ℤ) - 127) + 1) := by
      rw [lit_wordE (by omega) (by omega), hx] at hu'
      have e : ((T : ℤ) - 127) + 1 = ((T + 1 : ℕ) : ℤ) - 127 := by push_cast; ring
      rw [e]
      exact_mod_cast hu'
    have hpos : 0 < x := lt_of_lt_of_le (zpow_pos (by norm_num) _) hTx
    have hge : ¬ part a < lit 0x00800000#32 := by
      rw [t1, lit_wordE (by omega) (by omega), hx, not_lt]
      have : (2 : ℝ) ^ (((1 : ℕ) : ℤ) - 127) ≤ (2 : ℝ) ^ ((T : ℤ) - 127) := zpow_le_zpow_right₀ (by norm_num) (by omega)
      exact_mod_cast le_trans this hTx
    have hf : flushed a = (x : EReal) := by
      unfold flushed
      rw [if_neg hge, hx]
    have hlog : Ideal.div (Ideal.log (x : EReal)) ((Real.log 2 : ℝ) : EReal) = ((Real.log x / Real.log 2 : ℝ) : EReal) := by
      have e1 : Ideal.log (x : EReal) = ((Real.log x : ℝ) : EReal) := by
        show (if x ≤ 0 then ⊥ else ((Real.log x : ℝ) : EReal)) = _
        rw [if_neg (not_le.mpr hpos)]
      have hl : (Real.log 2) ≠ 0 := (Real.log_pos (by norm_num)).ne'
      rw [e1]
      unfold Ideal.div
      rw [if_neg (by exact_mod_cast hl), ← EReal.coe_inv, ← EReal.coe_mul, div_eq_mul_inv]
    have hr : rExp a = ((((T : ℤ) - 126 : ℤ) : ℝ) : EReal) := by
      unfold rExp
      rw [hf, if_neg (by exact_mod_cast hpos.ne'), hlog]
      show (((⌊Real.log x / Real.log 2⌋ : ℤ) : ℝ) : EReal) + 1 = _
      rw [floor_log hTx hxu]
      have e : (1 : EReal) = ((1 : ℝ) : EReal) := rfl
      rw [e, ← EReal.coe_add]
      congr 1
      push_cast
      ring
    have hr' : (0 : EReal) - rExp a = ((((126 - (T : ℤ)) : ℤ) : ℝ) : EReal) := by
      rw [hr]
      have e : (0 : EReal) = ((0 : ℝ) : EReal) := rfl
      rw [e, ← EReal.coe_sub]
      congr 1
      push_cast
      ring
    rw [if_neg hT0, addi_wordE, subi_wordE (by omega), hr', hr, exp2_int, exp2_int, lit_wordE (by omega) (by omega), lit_wordE (by omega) (by omega)]
    constructor
    · congr 2
      push_cast
      ring
    · congr 2
      have : ((253 - T : ℕ) : ℤ) = 253 - (T : ℤ) := by omega
      rw [this]
      ring

end Cert.Adam

end
-- ==== Proof.Equation.lean ====
/- The equation: where a column block is good, the kernel's scales and codes are the reference's. -/
module

public import proofs.«01_k».proof.Proof.Exponent
public import proofs.«01_k».proof.Proof.Update

@[expose] public section

noncomputable section

namespace Cert.Adam

open Idealize.ShloMosaic

/-- The largest magnitude among bounded numbers, one of them at least: a number of that bound, not negative. -/
theorem fold_bound {ι : Type} [Fintype ι] (i₀ : ι) (x : ι → EReal) {B : ℝ}
    (h : ∀ i, ∃ t : ℝ, x i = (t : EReal) ∧ |t| ≤ B) :
    ∃ y : ℝ, Finset.fold max (lit 0xFF800000#32) (fun i => max (x i) (-(x i))) Finset.univ = (y : EReal) ∧ 0 ≤ y ∧ y ≤ B := by
  have hm : ∀ i, ∃ t : ℝ, max (x i) (-(x i)) = (t : EReal) ∧ 0 ≤ t ∧ t ≤ B := fun i => by
    obtain ⟨t, e, ht⟩ := h i
    refine ⟨|t|, ?_, abs_nonneg t, ht⟩
    rw [e, ← EReal.coe_neg]
    exact (EReal.coe_strictMono.monotone.map_max (a := t) (b := -t)).symm
  have hu : Finset.fold max (lit 0xFF800000#32) (fun i => max (x i) (-(x i))) Finset.univ ≤ (B : EReal) := by
    refine Finset.fold_max_le _ |>.mpr ⟨by rw [lit_bot]; exact bot_le, fun i _ => ?_⟩
    obtain ⟨t, e, -, ht⟩ := hm i
    rw [e]
    exact_mod_cast ht
  have hl : 0 ≤ Finset.fold max (lit 0xFF800000#32) (fun i => max (x i) (-(x i))) Finset.univ := by
    refine Finset.le_fold_max _ |>.mpr (Or.inr ⟨i₀, Finset.mem_univ _, ?_⟩)
    obtain ⟨t, e, ht, -⟩ := hm i₀
    rw [e]
    exact_mod_cast ht
  generalize Finset.fold max (lit 0xFF800000#32) (fun i => max (x i) (-(x i))) Finset.univ = z at hu hl
  induction z using EReal.rec with
  | bot => exact absurd hl (by simp)
  | top => exact absurd hu (by simp)
  | coe y => exact ⟨y, rfl, by exact_mod_cast hl, by exact_mod_cast hu⟩

/-- A largest magnitude of at most 2^117 has the same scale, and inverse, in both spellings. -/
theorem scale_eq {a : EReal} {y : ℝ} (e : a = (y : EReal)) (h0 : 0 ≤ y) (h1 : y ≤ 2 ^ 117) : kScale a = rScale a ∧ kInv a = rInv a := by
  refine exponent_spec (x := y * (9586981 / 2 ^ 32)) ?_ (by positivity) ?_
  · unfold part
    rw [e, lit_part, ← EReal.coe_mul]
  · calc y * (9586981 / 2 ^ 32) ≤ 2 ^ 117 * (9586981 / 2 ^ 32) := mul_le_mul_of_nonneg_right h1 (by norm_num)
      _ < 2 ^ (126 : ℤ) := by norm_num

variable {D : Col}

theorem row_scale (h : Good D) (r : Fin 128) : kScale (rowMax (D.rM r)) = rScale (rowMax (D.rM r)) ∧ kInv (rowMax (D.rM r)) = rInv (rowMax (D.rM r)) := by
  obtain ⟨y, e, h0, h1⟩ := fold_bound (0 : Fin 128) (D.rM r) (rM_bound h r)
  exact scale_eq e h0 (h1.trans (by norm_num))

theorem block_scale (h : Good D) : kScale (blockMax D.rW) = rScale (blockMax D.rW) ∧ kInv (blockMax D.rW) = rInv (blockMax D.rW) := by
  obtain ⟨y, e, h0, h1⟩ := fold_bound ((0, 0) : Fin 128 × Fin 128) (fun p => D.rW p.1 p.2) (fun p => rW_bound h p.1 p.2)
  exact scale_eq e h0 h1

theorem kM_fun (D : Col) : D.kM = D.rM := funext fun r => funext fun c => kM_eq D r c
theorem kW_fun (h : Good D) : D.kW = D.rW := funext fun r => funext fun c => kW_eq h r c

/-- The scales and the codes of the first moment, -/
theorem kMScale_eq (h : Good D) (r : Fin 128) : D.kMScale r = D.rMScale r := by
  unfold Col.kMScale Col.rMScale
  rw [kM_fun]
  exact (row_scale h r).1

theorem kMCode_eq (h : Good D) (r c : Fin 128) : D.kMCode r c = D.rMCode r c := by
  unfold Col.kMCode Col.rMCode
  rw [kM_fun, (row_scale h r).2]

/-- and of the parameters. -/
theorem kWScale_eq (h : Good D) : D.kWScale = D.rWScale := by
  unfold Col.kWScale Col.rWScale
  rw [kW_fun h]
  exact (block_scale h).1

theorem kWCode_eq (h : Good D) (r c : Fin 128) : D.kWCode r c = D.rWCode r c := by
  unfold Col.kWCode Col.rWCode
  rw [kW_fun h, (block_scale h).2]

end Cert.Adam

end
-- ==== Proof.Results.lean ====
/- The results of the two programs are equal: from agreeing arguments, where every column block is good, each of the
   kernel's seven arrays is the reference's. -/
module

public import proofs.«01_k».proof.Proof.KernelArray
public import proofs.«01_k».proof.Proof.ReferenceArray
public import proofs.«01_k».proof.Proof.Equation

@[expose] public section

set_option maxRecDepth 16384

noncomputable section

namespace Cert.Adam

open Idealize.ShloMosaic Idealize.ShloMosaic.TcCoe Idealize.SL.Sem

theorem Args.eq_of {A B : Args} (h0 : A.w = B.w) (h1 : A.g = B.g) (h2 : A.mw = B.mw) (h3 : A.ms = B.ms) (h4 : A.v = B.v)
    (h5 : A.lr = B.lr) (h6 : A.st = B.st) : A = B := by
  cases A
  cases B
  cases h0
  cases h1
  cases h2
  cases h3
  cases h4
  cases h5
  cases h6
  rfl

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

/-- The new parameters, -/
theorem result7 (a : Cert.ReferenceIdeal.Whole.args m' c = Cert.KernelIdeal.Column.args m c)
    (h : ∀ b i k, Good ((Cert.KernelIdeal.Column.args m c).col b i k)) :
    ((Cert.ReferenceIdeal.Gen.dats m' 0 c).arrAt 7 Cert.ReferenceIdeal.cfg0.N : (⟨3, ![3, 512, 1408]⟩ : Shape).Idx → EReal)
      = ((Cert.KernelIdeal.Gen.dats m 0 c).arrAt 7 Cert.KernelIdeal.cfg0.N : (⟨3, ![3, 512, 1408]⟩ : Shape).Idx → EReal) := by
  funext x
  have e := eq_ix3 x
  rw [e]
  exact (Cert.ReferenceIdeal.Whole.final7 m' c (x 0) (x 1) (x 2)).trans (Eq.trans (by
    rw [a]
    exact (kW_eq (h _ _ _) _ _).symm)
    (Cert.KernelIdeal.Column.final7 m c (x 0) (x 1) (x 2)).symm)

/-- the new second moment, -/
theorem result8 (a : Cert.ReferenceIdeal.Whole.args m' c = Cert.KernelIdeal.Column.args m c)
    (h : ∀ b i k, Good ((Cert.KernelIdeal.Column.args m c).col b i k)) :
    ((Cert.ReferenceIdeal.Gen.dats m' 0 c).arrAt 8 Cert.ReferenceIdeal.cfg0.N : (⟨3, ![3, 512, 1408]⟩ : Shape).Idx → EReal)
      = ((Cert.KernelIdeal.Gen.dats m 0 c).arrAt 8 Cert.KernelIdeal.cfg0.N : (⟨3, ![3, 512, 1408]⟩ : Shape).Idx → EReal) := by
  funext x
  have e := eq_ix3 x
  rw [e]
  exact (Cert.ReferenceIdeal.Whole.final8 m' c (x 0) (x 1) (x 2)).trans (Eq.trans (by rw [a])
    (Cert.KernelIdeal.Column.final8 m c (x 0) (x 1) (x 2)).symm)

/-- the codes of the new first moment, -/
theorem result9 (a : Cert.ReferenceIdeal.Whole.args m' c = Cert.KernelIdeal.Column.args m c)
    (h : ∀ b i k, Good ((Cert.KernelIdeal.Column.args m c).col b i k)) :
    ((Cert.ReferenceIdeal.Gen.dats m' 0 c).arrAt 9 Cert.ReferenceIdeal.cfg0.N : (⟨3, ![3, 512, 1408]⟩ : Shape).Idx → EReal)
      = ((Cert.KernelIdeal.Gen.dats m 0 c).arrAt 9 Cert.KernelIdeal.cfg0.N : (⟨3, ![3, 512, 1408]⟩ : Shape).Idx → EReal) := by
  funext x
  have e := eq_ix3 x
  rw [e]
  exact (Cert.ReferenceIdeal.Whole.final9 m' c (x 0) (x 1) (x 2)).trans (Eq.trans (by
    rw [a]
    exact (kMCode_eq (h _ _ _) _ _).symm)
    (Cert.KernelIdeal.Column.final9 m c (x 0) (x 1) (x 2)).symm)

/-- its scales, -/
theorem result10 (a : Cert.ReferenceIdeal.Whole.args m' c = Cert.KernelIdeal.Column.args m c)
    (h : ∀ b i k, Good ((Cert.KernelIdeal.Column.args m c).col b i k)) :
    ((Cert.ReferenceIdeal.Gen.dats m' 0 c).arrAt 10 Cert.ReferenceIdeal.cfg0.N : (⟨3, ![3, 512, 11]⟩ : Shape).Idx → EReal)
      = ((Cert.KernelIdeal.Gen.dats m 0 c).arrAt 10 Cert.KernelIdeal.cfg0.N : (⟨3, ![3, 512, 11]⟩ : Shape).Idx → EReal) := by
  funext x
  have e := eq_ix3 x
  rw [e]
  exact (Cert.ReferenceIdeal.Whole.final10 m' c (x 0) (x 1) (x 2)).trans (Eq.trans (by
    rw [a]
    exact (kMScale_eq (h _ _ _) _).symm)
    (Cert.KernelIdeal.Column.final10 m c (x 0) (x 1) (x 2)).symm)

/-- the codes of the new parameters, -/
theorem result11 (a : Cert.ReferenceIdeal.Whole.args m' c = Cert.KernelIdeal.Column.args m c)
    (h : ∀ b i k, Good ((Cert.KernelIdeal.Column.args m c).col b i k)) :
    ((Cert.ReferenceIdeal.Gen.dats m' 0 c).arrAt 11 Cert.ReferenceIdeal.cfg0.N : (⟨3, ![3, 512, 1408]⟩ : Shape).Idx → EReal)
      = ((Cert.KernelIdeal.Gen.dats m 0 c).arrAt 11 Cert.KernelIdeal.cfg0.N : (⟨3, ![3, 512, 1408]⟩ : Shape).Idx → EReal) := by
  funext x
  have e := eq_ix3 x
  rw [e]
  exact (Cert.ReferenceIdeal.Whole.final11 m' c (x 0) (x 1) (x 2)).trans (Eq.trans (by
    rw [a]
    exact (kWCode_eq (h _ _ _) _ _).symm)
    (Cert.KernelIdeal.Column.final11 m c (x 0) (x 1) (x 2)).symm)

/-- their scales, -/
theorem result12 (a : Cert.ReferenceIdeal.Whole.args m' c = Cert.KernelIdeal.Column.args m c)
    (h : ∀ b i k, Good ((Cert.KernelIdeal.Column.args m c).col b i k)) :
    ((Cert.ReferenceIdeal.Gen.dats m' 0 c).arrAt 12 Cert.ReferenceIdeal.cfg0.N : (⟨4, ![3, 4, 1, 11]⟩ : Shape).Idx → EReal)
      = ((Cert.KernelIdeal.Gen.dats m 0 c).arrAt 12 Cert.KernelIdeal.cfg0.N : (⟨4, ![3, 4, 1, 11]⟩ : Shape).Idx → EReal) := by
  funext x
  have e : x = ix4 (x 0) (x 1) 0 (x 3) := (eq_ix4 x).trans (by
    rw [show x 2 = (0 : Fin 1) from Subsingleton.elim (α := Fin 1) _ _]
    rfl)
  rw [e]
  exact (Cert.ReferenceIdeal.Whole.final12 m' c (x 0) (x 1) (x 3)).trans (Eq.trans (by
    rw [a]
    exact (kWScale_eq (h _ _ _)).symm)
    (Cert.KernelIdeal.Column.final12 m c (x 0) (x 1) (x 3)).symm)

/-- and the transposed codes. -/
theorem result13 (a : Cert.ReferenceIdeal.Whole.args m' c = Cert.KernelIdeal.Column.args m c)
    (h : ∀ b i k, Good ((Cert.KernelIdeal.Column.args m c).col b i k)) :
    ((Cert.ReferenceIdeal.Gen.dats m' 0 c).arrAt 13 Cert.ReferenceIdeal.cfg0.N : (⟨3, ![3, 1408, 512]⟩ : Shape).Idx → EReal)
      = ((Cert.KernelIdeal.Gen.dats m 0 c).arrAt 13 Cert.KernelIdeal.cfg0.N : (⟨3, ![3, 1408, 512]⟩ : Shape).Idx → EReal) := by
  funext x
  have e := eq_ix3 x
  rw [e]
  exact (Cert.ReferenceIdeal.Whole.final13 m' c (x 0) (x 1) (x 2)).trans (Eq.trans (by
    rw [a]
    exact (kWCode_eq (h _ _ _) _ _).symm)
    (Cert.KernelIdeal.Column.final13 m c (x 0) (x 1) (x 2)).symm)

end Cert.Adam

end
-- ==== Proof.lean ====
module

public import proofs.«01_k».proof.Defs
public import proofs.«01_k».proof.Proof.Precondition
public import proofs.«01_k».proof.Proof.Results
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- The idealized kernel is the kernel with four of its constants named. -/
theorem preserves : Cert.preserves_Kernel_KernelIdeal :=
  ⟨IdealRules.named_const.statement Cert.KernelIdeal.κ "log_b1" .f32 0xBDD7C741#32 ((Real.log (9 / 10) : ℝ) : EReal) rfl,
   IdealRules.named_const.statement Cert.KernelIdeal.κ "log_b2" .f32 0xBD5218EB#32 ((Real.log (19 / 20) : ℝ) : EReal) rfl,
   IdealRules.named_const.statement Cert.KernelIdeal.κ "b1" .f32 0x3F666666#32 ((9 / 10 : ℝ) : EReal) rfl,
   IdealRules.named_const.statement Cert.KernelIdeal.κ "b2" .f32 0x3F733333#32 ((19 / 20 : ℝ) : EReal) rfl⟩

/-- The programs' arguments agree, so the two sides read the same `Args`. -/
theorem args_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Whole.args m' c = Cert.KernelIdeal.Column.args m c :=
  Cert.Adam.Args.eq_of h.1 h.2.1 h.2.2.1 h.2.2.2.1 h.2.2.2.2.1 h.2.2.2.2.2.1 h.2.2.2.2.2.2

/-- Under the precondition the kernel's seven results are the reference's. -/
theorem algebraic : Cert.algebraic_KernelIdeal_ReferenceIdeal_pre_representable (hKernelIdeal := Cert.KernelIdeal.Gen.facts)
    (hReferenceIdeal := Cert.ReferenceIdeal.Gen.facts) (hPre_representable := Cert.Adam.preFacts) := by
  intro m g m' g' hp ha
  have hg : ∀ (c : Dev Cert.KernelIdeal.nD) b i k, Cert.Adam.Good ((Cert.KernelIdeal.Column.args m c).col b i k) := fun c =>
    @Cert.Adam.good Cert.Adam.preFacts (Cert.KernelIdeal.Column.args m c) (hp c)
  have he : ∀ c : Dev Cert.KernelIdeal.nD, Cert.ReferenceIdeal.Whole.args m' c = Cert.KernelIdeal.Column.args m c := fun c => args_eq (ha c)
  refine ⟨fun c => (Cert.KernelIdeal.Gen.dats m 0 c).arrAt 7 Cert.KernelIdeal.cfg0.N, fun c => (Cert.KernelIdeal.Gen.dats m 0 c).arrAt 8 Cert.KernelIdeal.cfg0.N, fun c => (Cert.KernelIdeal.Gen.dats m 0 c).arrAt 9 Cert.KernelIdeal.cfg0.N, fun c => (Cert.KernelIdeal.Gen.dats m 0 c).arrAt 10 Cert.KernelIdeal.cfg0.N, fun c => (Cert.KernelIdeal.Gen.dats m 0 c).arrAt 11 Cert.KernelIdeal.cfg0.N, fun c => (Cert.KernelIdeal.Gen.dats m 0 c).arrAt 12 Cert.KernelIdeal.cfg0.N, fun c => (Cert.KernelIdeal.Gen.dats m 0 c).arrAt 13 Cert.KernelIdeal.cfg0.N, Cert.KernelIdeal.Value.run_blocks m g, ?_⟩
  refine (θ_run (Cert.ReferenceIdeal.defs (F := Ideal)) _ _).mono (fun r h c => ?_) (Cert.ReferenceIdeal.Value.run_blocks m' g')
  obtain ⟨h0, h1, h2, h3, h4, h5, h6, hk⟩ := h c
  exact ⟨h0.trans (Cert.Adam.result7 (he c) (hg c)), h1.trans (Cert.Adam.result8 (he c) (hg c)), h2.trans (Cert.Adam.result9 (he c) (hg c)),
    h3.trans (Cert.Adam.result10 (he c) (hg c)), h4.trans (Cert.Adam.result11 (he c) (hg c)), h5.trans (Cert.Adam.result12 (he c) (hg c)),
    h6.trans (Cert.Adam.result13 (he c) (hg c)), hk⟩

theorem claim : Cert.Claim :=
  ⟨Cert.Kernel.Gen.facts, Cert.KernelIdeal.Gen.facts, Cert.ReferenceIdeal.Gen.facts, Cert.Adam.preFacts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, preserves, algebraic⟩

end Cert.Proof

end
